-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_drawn [hPre_drawn : Cert.Pre_drawn.Facts] (m : (ℓ : Loc Cert.KernelIdeal.nD Cert.KernelIdeal.τ Cert.KernelIdeal.sig) → Buf (Elt Ideal) ℓ) : Prop :=
  ∀ c : Dev Cert.KernelIdeal.nD,
    (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).1 = (fun _ => 1#1)
    ∧ (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.1 = (fun _ => 1#1)
    ∧ (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.1 = (fun _ => 1#1)
    ∧ (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.1 = (fun _ => 1#1)
    ∧ (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.2.1 = (fun _ => 1#1)
    ∧ (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.2.2.1 = (fun _ => 1#1)
    ∧ (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.2.2.2.1 = (fun _ => 1#1)
    ∧ (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.2.2.2.2.1 = (fun _ => 1#1)
    ∧ (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.2.2.2.2.2.1 = (fun _ => 1#1)
    ∧ (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.2.2.2.2.2.2.1 = (fun _ => 1#1)
    ∧ (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.2.2.2.2.2.2.2.1 = (fun _ => 1#1)
    ∧ (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.2.2.2.2.2.2.2.2.1 = (fun _ => 1#1)
    ∧ (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.2.2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_drawn [hPre_drawn : Cert.Pre_drawn.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).1 = (fun _ => 1#1)
    ∧ (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.1 = (fun _ => 1#1)
    ∧ (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.1 = (fun _ => 1#1)
    ∧ (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.1 = (fun _ => 1#1)
    ∧ (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.2.1 = (fun _ => 1#1)
    ∧ (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.2.2.1 = (fun _ => 1#1)
    ∧ (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.2.2.2.1 = (fun _ => 1#1)
    ∧ (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.2.2.2.2.1 = (fun _ => 1#1)
    ∧ (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.2.2.2.2.2.1 = (fun _ => 1#1)
    ∧ (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.2.2.2.2.2.2.1 = (fun _ => 1#1)
    ∧ (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.2.2.2.2.2.2.2.1 = (fun _ => 1#1)
    ∧ (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.2.2.2.2.2.2.2.2.1 = (fun _ => 1#1)
    ∧ (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.2.2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_KernelIdeal_pre_drawn [hKernelIdeal : Cert.KernelIdeal.Facts] [hPre_drawn : Cert.Pre_drawn.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_drawn m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def quiescent_ReferenceIdeal_pre_drawn [hReferenceIdeal : Cert.ReferenceIdeal.Facts] [hPre_drawn : Cert.Pre_drawn.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_drawn m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def preserves_Kernel_KernelIdeal : Prop :=
  True

def algebraic_KernelIdeal_ReferenceIdeal_pre_drawn [hKernelIdeal : Cert.KernelIdeal.Facts] [hReferenceIdeal : Cert.ReferenceIdeal.Facts] [hPre_drawn : Cert.Pre_drawn.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_drawn m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v296) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_drawn : Cert.Pre_drawn.Facts),
    quiescent_Kernel (hKernel := hKernel)
    ∧ quiescent_KernelIdeal (hKernelIdeal := hKernelIdeal)
    ∧ quiescent_KernelIdeal_pre_drawn (hKernelIdeal := hKernelIdeal) (hPre_drawn := hPre_drawn)
    ∧ quiescent_ReferenceIdeal (hReferenceIdeal := hReferenceIdeal)
    ∧ quiescent_ReferenceIdeal_pre_drawn (hReferenceIdeal := hReferenceIdeal) (hPre_drawn := hPre_drawn)
    ∧ preserves_Kernel_KernelIdeal
    ∧ algebraic_KernelIdeal_ReferenceIdeal_pre_drawn (hKernelIdeal := hKernelIdeal) (hReferenceIdeal := hReferenceIdeal) (hPre_drawn := hPre_drawn)
-- ==== Pre_drawn.lean ====
abbrev S32x240x32x256 : Shape := ⟨4, ![32, 240, 32, 256]⟩
abbrev S3x256x256 : Shape := ⟨3, ![3, 256, 256]⟩
abbrev S3x256 : Shape := ⟨2, ![3, 256]⟩
abbrev S3x3x256x256 : Shape := ⟨4, ![3, 3, 256, 256]⟩
abbrev S256x3 : Shape := ⟨2, ![256, 3]⟩
abbrev S3 : Shape := ⟨1, ![3]⟩
abbrev S2x62 : Shape := ⟨2, ![2, 62]⟩
abbrev S_ : Shape := ⟨0, ![]⟩

class Facts : Prop where
  bcast_S_S32x240x32x256 : S_.BroadcastsInDim S32x240x32x256 (![] : Fin 0 → Fin S32x240x32x256.rank)
  bcast_S_S3x256x256 : S_.BroadcastsInDim S3x256x256 (![] : Fin 0 → Fin S3x256x256.rank)
  bcast_S_S3x3x256x256 : S_.BroadcastsInDim S3x3x256x256 (![] : Fin 0 → Fin S3x3x256x256.rank)
  bcast_S_S3x256 : S_.BroadcastsInDim S3x256 (![] : Fin 0 → Fin S3x256.rank)
  bcast_S_S3 : S_.BroadcastsInDim S3 (![] : Fin 0 → Fin S3.rank)

variable [Facts]

noncomputable abbrev lit0 : Fin 124 → BitVec 32 := fun
  | 0 => 0#32 | 1 => 1#32 | 2 => 1#32 | 3 => 2#32 | 4 => 2#32 | 5 => 3#32 | 6 => 3#32 | 7 => 4#32
  | 8 => 4#32 | 9 => 5#32 | 10 => 5#32 | 11 => 6#32 | 12 => 6#32 | 13 => 7#32 | 14 => 7#32 | 15 => 8#32
  | 16 => 8#32 | 17 => 9#32 | 18 => 9#32 | 19 => 10#32 | 20 => 10#32 | 21 => 11#32 | 22 => 11#32 | 23 => 12#32
  | 24 => 12#32 | 25 => 13#32 | 26 => 13#32 | 27 => 14#32 | 28 => 14#32 | 29 => 15#32 | 30 => 15#32 | 31 => 16#32
  | 32 => 16#32 | 33 => 17#32 | 34 => 17#32 | 35 => 18#32 | 36 => 18#32 | 37 => 19#32 | 38 => 19#32 | 39 => 20#32
  | 40 => 20#32 | 41 => 21#32 | 42 => 21#32 | 43 => 22#32 | 44 => 22#32 | 45 => 23#32 | 46 => 23#32 | 47 => 24#32
  | 48 => 24#32 | 49 => 25#32 | 50 => 25#32 | 51 => 26#32 | 52 => 26#32 | 53 => 27#32 | 54 => 27#32 | 55 => 28#32
  | 56 => 28#32 | 57 => 29#32 | 58 => 29#32 | 59 => 30#32 | 60 => 30#32 | 61 => 31#32 | 62 => 1#32 | 63 => 0#32
  | 64 => 2#32 | 65 => 1#32 | 66 => 3#32 | 67 => 2#32 | 68 => 4#32 | 69 => 3#32 | 70 => 5#32 | 71 => 4#32
  | 72 => 6#32 | 73 => 5#32 | 74 => 7#32 | 75 => 6#32 | 76 => 8#32 | 77 => 7#32 | 78 => 9#32 | 79 => 8#32
  | 80 => 10#32 | 81 => 9#32 | 82 => 11#32 | 83 => 10#32 | 84 => 12#32 | 85 => 11#32 | 86 => 13#32 | 87 => 12#32
  | 88 => 14#32 | 89 => 13#32 | 90 => 15#32 | 91 => 14#32 | 92 => 16#32 | 93 => 15#32 | 94 => 17#32 | 95 => 16#32
  | 96 => 18#32 | 97 => 17#32 | 98 => 19#32 | 99 => 18#32 | 100 => 20#32 | 101 => 19#32 | 102 => 21#32 | 103 => 20#32
  | 104 => 22#32 | 105 => 21#32 | 106 => 23#32 | 107 => 22#32 | 108 => 24#32 | 109 => 23#32 | 110 => 25#32 | 111 => 24#32
  | 112 => 26#32 | 113 => 25#32 | 114 => 27#32 | 115 => 26#32 | 116 => 28#32 | 117 => 27#32 | 118 => 29#32 | 119 => 28#32
  | 120 => 30#32 | 121 => 29#32 | 122 => 31#32 | 123 => 30#32
  | _ => 0#32

def fn_part1 {F : FTy → Type} [FloatOps F] (main_arg5 : FVec F S3x256 .f32) (main_arg6 : FVec F S3x256 .f32) (main_arg8 : FVec F S3x256 .f32) (main_arg9 : FVec F S3x256 .f32) (main_arg10 : FVec F S3x256 .f32) (main_arg12 : FVec F S3 .f32) (main_v0 : IVec S2x62 1) (main_v3 : IVec S32x240x32x256 1) (main_v6 : IVec S3x256x256 1) (main_v9 : IVec S3x256x256 1) (main_v12 : IVec S3x3x256x256 1) (main_v14 : IVec S3x256 1) (main_v16 : IVec S3x256 1) : IVec S2x62 1 × IVec S32x240x32x256 1 × IVec S3x256x256 1 × IVec S3x256x256 1 × IVec S3x3x256x256 1 × IVec S3x256 1 × IVec S3x256 1 × IVec S3x256 1 × IVec S3 1 × IVec S3x256 1 × IVec S3x256 1 × IVec S3x256 1 × IVec S3x256 1 :=
  let main_cst_5 : FVec F S_ .f32 := constant S_ .f32 0x00000000#32
  let main_v17 : FVec F S3x256 .f32 := broadcastInDim S3x256 ![] bcast_S_S3x256 main_cst_5
  let main_v18 : IVec S3x256 1 := cmpf .oeq main_arg8 main_v17
  let main_cst_6 : FVec F S_ .f32 := constant S_ .f32 0x00000000#32
  let main_v19 : FVec F S3 .f32 := broadcastInDim S3 ![] bcast_S_S3 main_cst_6
  let main_v20 : IVec S3 1 := cmpf .oeq main_arg12 main_v19
  let main_cst_7 : FVec F S_ .f32 := constant S_ .f32 0x3F800000#32
  let main_v21 : FVec F S3x256 .f32 := broadcastInDim S3x256 ![] bcast_S_S3x256 main_cst_7
  let main_v22 : IVec S3x256 1 := cmpf .oeq main_arg5 main_v21
  let main_cst_8 : FVec F S_ .f32 := constant S_ .f32 0x00000000#32
  let main_v23 : FVec F S3x256 .f32 := broadcastInDim S3x256 ![] bcast_S_S3x256 main_cst_8
  let main_v24 : IVec S3x256 1 := cmpf .oeq main_arg6 main_v23
  let main_cst_9 : FVec F S_ .f32 := constant S_ .f32 0x3F800000#32
  let main_v25 : FVec F S3x256 .f32 := broadcastInDim S3x256 ![] bcast_S_S3x256 main_cst_9
  let main_v26 : IVec S3x256 1 := cmpf .oeq main_arg9 main_v25
  let main_cst_10 : FVec F S_ .f32 := constant S_ .f32 0x00000000#32
  let main_v27 : FVec F S3x256 .f32 := broadcastInDim S3x256 ![] bcast_S_S3x256 main_cst_10
  let main_v28 : IVec S3x256 1 := cmpf .oeq main_arg10 main_v27
  (main_v0, main_v3, main_v6, main_v9, main_v12, main_v14, main_v16, main_v18, main_v20, main_v22, main_v24, main_v26, main_v28)

def fn {F : FTy → Type} [FloatOps F] (main_arg0 : FVec F S32x240x32x256 .f32) (main_arg1 : FVec F S3x256x256 .f32) (main_arg2 : FVec F S3x256 .f32) (main_arg3 : FVec F S3x256x256 .f32) (main_arg4 : FVec F S3x256 .f32) (main_arg5 : FVec F S3x256 .f32) (main_arg6 : FVec F S3x256 .f32) (main_arg7 : FVec F S3x3x256x256 .f32) (main_arg8 : FVec F S3x256 .f32) (main_arg9 : FVec F S3x256 .f32) (main_arg10 : FVec F S3x256 .f32) (main_arg11 : FVec F S256x3 .f32) (main_arg12 : FVec F S3 .f32) (main_arg13 : IVec S2x62 32) : IVec S2x62 1 × IVec S32x240x32x256 1 × IVec S3x256x256 1 × IVec S3x256x256 1 × IVec S3x3x256x256 1 × IVec S3x256 1 × IVec S3x256 1 × IVec S3x256 1 × IVec S3 1 × IVec S3x256 1 × IVec S3x256 1 × IVec S3x256 1 × IVec S3x256 1 :=
  let main_c : IVec S2x62 32 := fun i => lit0 (S2x62.rowMajor i)
  let main_v0 : IVec S2x62 1 := cmpi .eq main_arg13 main_c
  let main_v1 : FVec F S32x240x32x256 .f32 := Host.absf main_arg0
  let main_cst : FVec F S_ .f32 := constant S_ .f32 0x7F800000#32
  let main_v2 : FVec F S32x240x32x256 .f32 := broadcastInDim S32x240x32x256 ![] bcast_S_S32x240x32x256 main_cst
  let main_v3 : IVec S32x240x32x256 1 := cmpf .olt main_v1 main_v2
  let main_v4 : FVec F S3x256x256 .f32 := Host.absf main_arg1
  let main_cst_0 : FVec F S_ .f32 := constant S_ .f32 0x7F800000#32
  let main_v5 : FVec F S3x256x256 .f32 := broadcastInDim S3x256x256 ![] bcast_S_S3x256x256 main_cst_0
  let main_v6 : IVec S3x256x256 1 := cmpf .olt main_v4 main_v5
  let main_v7 : FVec F S3x256x256 .f32 := Host.absf main_arg3
  let main_cst_1 : FVec F S_ .f32 := constant S_ .f32 0x7F800000#32
  let main_v8 : FVec F S3x256x256 .f32 := broadcastInDim S3x256x256 ![] bcast_S_S3x256x256 main_cst_1
  let main_v9 : IVec S3x256x256 1 := cmpf .olt main_v7 main_v8
  let main_v10 : FVec F S3x3x256x256 .f32 := Host.absf main_arg7
  let main_cst_2 : FVec F S_ .f32 := constant S_ .f32 0x7F800000#32
  let main_v11 : FVec F S3x3x256x256 .f32 := broadcastInDim S3x3x256x256 ![] bcast_S_S3x3x256x256 main_cst_2
  let main_v12 : IVec S3x3x256x256 1 := cmpf .olt main_v10 main_v11
  let main_cst_3 : FVec F S_ .f32 := constant S_ .f32 0x00000000#32
  let main_v13 : FVec F S3x256 .f32 := broadcastInDim S3x256 ![] bcast_S_S3x256 main_cst_3
  let main_v14 : IVec S3x256 1 := cmpf .oeq main_arg2 main_v13
  let main_cst_4 : FVec F S_ .f32 := constant S_ .f32 0x00000000#32
  let main_v15 : FVec F S3x256 .f32 := broadcastInDim S3x256 ![] bcast_S_S3x256 main_cst_4
  let main_v16 : IVec S3x256 1 := cmpf .oeq main_arg4 main_v15
  fn_part1 (F := F) main_arg5 main_arg6 main_arg8 main_arg9 main_arg10 main_arg12 main_v0 main_v3 main_v6 main_v9 main_v12 main_v14 main_v16
-- ==== Kernel.lean ====
abbrev S32x240x32x256 : Shape := ⟨4, ![32, 240, 32, 256]⟩
abbrev S3x256x256 : Shape := ⟨3, ![3, 256, 256]⟩
abbrev S3x256 : Shape := ⟨2, ![3, 256]⟩
abbrev S3x3x256x256 : Shape := ⟨4, ![3, 3, 256, 256]⟩
abbrev S256x3 : Shape := ⟨2, ![256, 3]⟩
abbrev S3 : Shape := ⟨1, ![3]⟩
abbrev S2x62 : Shape := ⟨2, ![2, 62]⟩
abbrev S1x62 : Shape := ⟨2, ![1, 62]⟩
abbrev S62 : Shape := ⟨1, ![62]⟩
abbrev S_ : Shape := ⟨0, ![]⟩
abbrev S32 : Shape := ⟨1, ![32]⟩
abbrev S62x1 : Shape := ⟨2, ![62, 1]⟩
abbrev S1x32x1 : Shape := ⟨3, ![1, 32, 1]⟩
abbrev S32x240x32x3 : Shape := ⟨4, ![32, 240, 32, 3]⟩
abbrev S1x240x32x256 : Shape := ⟨4, ![1, 240, 32, 256]⟩
abbrev S1x240x32x3 : Shape := ⟨4, ![1, 240, 32, 3]⟩
abbrev S20x1x256 : Shape := ⟨3, ![20, 1, 256]⟩
abbrev S1x32x256 : Shape := ⟨3, ![1, 32, 256]⟩
abbrev S1x20x32x256 : Shape := ⟨4, ![1, 20, 32, 256]⟩
abbrev S20x32x256 : Shape := ⟨3, ![20, 32, 256]⟩
abbrev S20x31x256 : Shape := ⟨3, ![20, 31, 256]⟩
abbrev S640x256 : Shape := ⟨2, ![640, 256]⟩
abbrev S1x256x256 : Shape := ⟨3, ![1, 256, 256]⟩
abbrev S256x256 : Shape := ⟨2, ![256, 256]⟩
abbrev S640 : Shape := ⟨1, ![640]⟩
abbrev S640x1 : Shape := ⟨2, ![640, 1]⟩
abbrev S1x1x256x256 : Shape := ⟨4, ![1, 1, 256, 256]⟩
abbrev S19x32x256 : Shape := ⟨3, ![19, 32, 256]⟩
abbrev S20x32 : Shape := ⟨2, ![20, 32]⟩
abbrev S20x32x1 : Shape := ⟨3, ![20, 32, 1]⟩
abbrev S640x3 : Shape := ⟨2, ![640, 3]⟩
abbrev S20x32x3 : Shape := ⟨3, ![20, 32, 3]⟩
abbrev S1x20x32x3 : Shape := ⟨4, ![1, 20, 32, 3]⟩

abbrev nBuf : Space → Nat
  | .hbm => 38
  | .vmem => 9
  | .smem => 0
  | _ => 0

abbrev bufTy : (tb : Table) → Fin (tcTables nBuf tb) → BufTy
  | .hbm, ⟨0, _⟩ => ⟨S32x240x32x256, .f32⟩
  | .hbm, ⟨1, _⟩ => ⟨S3x256x256, .f32⟩
  | .hbm, ⟨2, _⟩ => ⟨S3x256, .f32⟩
  | .hbm, ⟨3, _⟩ => ⟨S3x256x256, .f32⟩
  | .hbm, ⟨4, _⟩ => ⟨S3x256, .f32⟩
  | .hbm, ⟨5, _⟩ => ⟨S3x256, .f32⟩
  | .hbm, ⟨6, _⟩ => ⟨S3x256, .f32⟩
  | .hbm, ⟨7, _⟩ => ⟨S3x3x256x256, .f32⟩
  | .hbm, ⟨8, _⟩ => ⟨S3x256, .f32⟩
  | .hbm, ⟨9, _⟩ => ⟨S3x256, .f32⟩
  | .hbm, ⟨10, _⟩ => ⟨S3x256, .f32⟩
  | .hbm, ⟨11, _⟩ => ⟨S256x3, .f32⟩
  | .hbm, ⟨12, _⟩ => ⟨S3, .f32⟩
  | .hbm, ⟨13, _⟩ => ⟨S2x62, .i32⟩
  | .hbm, ⟨14, _⟩ => ⟨S1x62, .i32⟩
  | .hbm, ⟨15, _⟩ => ⟨S62, .i32⟩
  | .hbm, ⟨16, _⟩ => ⟨S_, .f32⟩
  | .hbm, ⟨17, _⟩ => ⟨S32, .f32⟩
  | .hbm, ⟨18, _⟩ => ⟨S_, .i32⟩
  | .hbm, ⟨19, _⟩ => ⟨S62, .i32⟩
  | .hbm, ⟨20, _⟩ => ⟨S62, .i1⟩
  | .hbm, ⟨21, _⟩ => ⟨S_, .i32⟩
  | .hbm, ⟨22, _⟩ => ⟨S62, .i32⟩
  | .hbm, ⟨23, _⟩ => ⟨S62, .i32⟩
  | .hbm, ⟨24, _⟩ => ⟨S62, .i32⟩
  | .hbm, ⟨25, _⟩ => ⟨S62x1, .i32⟩
  | .hbm, ⟨26, _⟩ => ⟨S_, .f32⟩
  | .hbm, ⟨27, _⟩ => ⟨S62, .f32⟩
  | .hbm, ⟨28, _⟩ => ⟨S32, .f32⟩
  | .hbm, ⟨29, _⟩ => ⟨S_, .f32⟩
  | .hbm, ⟨30, _⟩ => ⟨S_, .f32⟩
  | .hbm, ⟨31, _⟩ => ⟨S32, .f32⟩
  | .hbm, ⟨32, _⟩ => ⟨S32, .f32⟩
  | .hbm, ⟨33, _⟩ => ⟨S_, .f32⟩
  | .hbm, ⟨34, _⟩ => ⟨S32, .f32⟩
  | .hbm, ⟨35, _⟩ => ⟨S32, .f32⟩
  | .hbm, ⟨36, _⟩ => ⟨S1x32x1, .f32⟩
  | .hbm, ⟨37, _⟩ => ⟨S32x240x32x3, .f32⟩
  | .local _ .vmem, ⟨0, _⟩ => ⟨S1x240x32x256, .f32⟩
  | .local _ .vmem, ⟨1, _⟩ => ⟨S1x240x32x256, .f32⟩
  | .local _ .vmem, ⟨2, _⟩ => ⟨S1x32x1, .f32⟩
  | .local _ .vmem, ⟨3, _⟩ => ⟨S3x256x256, .f32⟩
  | .local _ .vmem, ⟨4, _⟩ => ⟨S3x256x256, .f32⟩
  | .local _ .vmem, ⟨5, _⟩ => ⟨S3x3x256x256, .f32⟩
  | .local _ .vmem, ⟨6, _⟩ => ⟨S256x3, .f32⟩
  | .local _ .vmem, ⟨7, _⟩ => ⟨S1x240x32x3, .f32⟩
  | .local _ .vmem, ⟨8, _⟩ => ⟨S1x240x32x3, .f32⟩
  | _, _ => ⟨S32x240x32x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_cst : Ref sig .tc := ⟨.hbm, 16, rfl⟩
abbrev main_v2 : Ref sig .tc := ⟨.hbm, 17, rfl⟩
abbrev main_c : Ref sig .tc := ⟨.hbm, 18, rfl⟩
abbrev main_v3 : Ref sig .tc := ⟨.hbm, 19, rfl⟩
abbrev main_v4 : Ref sig .tc := ⟨.hbm, 20, rfl⟩
abbrev main_c_0 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_cst_1 : Ref sig .tc := ⟨.hbm, 26, rfl⟩
abbrev main_v9 : Ref sig .tc := ⟨.hbm, 27, rfl⟩
abbrev main_v10 : Ref sig .tc := ⟨.hbm, 28, rfl⟩
abbrev main_cst_2 : Ref sig .tc := ⟨.hbm, 29, rfl⟩
abbrev main_call0_v0 : Ref sig .tc := ⟨.hbm, 30, rfl⟩
abbrev main_call0_v1 : Ref sig .tc := ⟨.hbm, 31, rfl⟩
abbrev main_v11 : Ref sig .tc := ⟨.hbm, 32, rfl⟩
abbrev main_cst_3 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x240x32x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x32x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3x256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3x256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3x3x256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x3 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x240x32x3 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S32x240x32x256 : Shape := ⟨4, ![32, 240, 32, 256]⟩
abbrev S3x256x256 : Shape := ⟨3, ![3, 256, 256]⟩
abbrev S3x256 : Shape := ⟨2, ![3, 256]⟩
abbrev S3x3x256x256 : Shape := ⟨4, ![3, 3, 256, 256]⟩
abbrev S256x3 : Shape := ⟨2, ![256, 3]⟩
abbrev S3 : Shape := ⟨1, ![3]⟩
abbrev S2x62 : Shape := ⟨2, ![2, 62]⟩
abbrev S1x62 : Shape := ⟨2, ![1, 62]⟩
abbrev S62 : Shape := ⟨1, ![62]⟩
abbrev S_ : Shape := ⟨0, ![]⟩
abbrev S32 : Shape := ⟨1, ![32]⟩
abbrev S62x1 : Shape := ⟨2, ![62, 1]⟩
abbrev S1 : Shape := ⟨1, ![1]⟩
abbrev S1x1 : Shape := ⟨2, ![1, 1]⟩
abbrev S32x240x62x256 : Shape := ⟨4, ![32, 240, 62, 256]⟩
abbrev S1x256x256 : Shape := ⟨3, ![1, 256, 256]⟩
abbrev S256x256 : Shape := ⟨2, ![256, 256]⟩
abbrev S1x256 : Shape := ⟨2, ![1, 256]⟩
abbrev S256 : Shape := ⟨1, ![256]⟩
abbrev S1x1x1x256 : Shape := ⟨4, ![1, 1, 1, 256]⟩
abbrev S62x32x240x256 : Shape := ⟨4, ![62, 32, 240, 256]⟩
abbrev S32x32x240x256 : Shape := ⟨4, ![32, 32, 240, 256]⟩
abbrev S1x1x32x1 : Shape := ⟨4, ![1, 1, 32, 1]⟩
abbrev S32x240x32 : Shape := ⟨3, ![32, 240, 32]⟩
abbrev S32x240x32x1 : Shape := ⟨4, ![32, 240, 32, 1]⟩
abbrev S32x242x32x256 : Shape := ⟨4, ![32, 242, 32, 256]⟩
abbrev S1x1x256x256 : Shape := ⟨4, ![1, 1, 256, 256]⟩
abbrev S32x240x32x3 : Shape := ⟨4, ![32, 240, 32, 3]⟩
abbrev S1x1x1x3 : Shape := ⟨4, ![1, 1, 1, 3]⟩

abbrev nBuf : Space → Nat
  | .hbm => 561
  | .vmem => 0
  | .smem => 0
  | _ => 0

abbrev hbmTy0_0 (i : Nat) : BufTy := match i % 128 with
  | 0 => ⟨S32x240x32x256, .f32⟩
  | 1 => ⟨S3x256x256, .f32⟩
  | 2 => ⟨S3x256, .f32⟩
  | 3 => ⟨S3x256x256, .f32⟩
  | 4 => ⟨S3x256, .f32⟩
  | 5 => ⟨S3x256, .f32⟩
  | 6 => ⟨S3x256, .f32⟩
  | 7 => ⟨S3x3x256x256, .f32⟩
  | 8 => ⟨S3x256, .f32⟩
  | 9 => ⟨S3x256, .f32⟩
  | 10 => ⟨S3x256, .f32⟩
  | 11 => ⟨S256x3, .f32⟩
  | 12 => ⟨S3, .f32⟩
  | 13 => ⟨S2x62, .i32⟩
  | 14 => ⟨S1x62, .i32⟩
  | 15 => ⟨S62, .i32⟩
  | 16 => ⟨S1x62, .i32⟩
  | 17 => ⟨S62, .i32⟩
  | 18 => ⟨S_, .f32⟩
  | 19 => ⟨S32, .f32⟩
  | 20 => ⟨S_, .i32⟩
  | 21 => ⟨S62, .i32⟩
  | 22 => ⟨S62, .i1⟩
  | 23 => ⟨S_, .i32⟩
  | 24 => ⟨S62, .i32⟩
  | 25 => ⟨S62, .i32⟩
  | 26 => ⟨S62, .i32⟩
  | 27 => ⟨S62x1, .i32⟩
  | 28 => ⟨S_, .f32⟩
  | 29 => ⟨S62, .f32⟩
  | 30 => ⟨S32, .f32⟩
  | 31 => ⟨S_, .f32⟩
  | 32 => ⟨S_, .f32⟩
  | 33 => ⟨S32, .f32⟩
  | 34 => ⟨S32, .f32⟩
  | 35 => ⟨S_, .i32⟩
  | 36 => ⟨S62, .i32⟩
  | 37 => ⟨S62, .i1⟩
  | 38 => ⟨S_, .i32⟩
  | 39 => ⟨S62, .i32⟩
  | 40 => ⟨S62, .i32⟩
  | 41 => ⟨S62, .i32⟩
  | 42 => ⟨S62x1, .i32⟩
  | 43 => ⟨S1, .i32⟩
  | 44 => ⟨S_, .i32⟩
  | 45 => ⟨S62x1, .i32⟩
  | 46 => ⟨S62x1, .i1⟩
  | 47 => ⟨S1x1, .i32⟩
  | 48 => ⟨S62x1, .i32⟩
  | 49 => ⟨S62x1, .i1⟩
  | 50 => ⟨S62x1, .i1⟩
  | 51 => ⟨S_, .i1⟩
  | 52 => ⟨S62, .i1⟩
  | 53 => ⟨S32x240x62x256, .f32⟩
  | 54 => ⟨S32x240x62x256, .i1⟩
  | 55 => ⟨S_, .f32⟩
  | 56 => ⟨S32x240x62x256, .f32⟩
  | 57 => ⟨S32x240x62x256, .f32⟩
  | 58 => ⟨S1x256x256, .f32⟩
  | 59 => ⟨S256x256, .f32⟩
  | 60 => ⟨S32x240x62x256, .f32⟩
  | 61 => ⟨S1x256, .f32⟩
  | 62 => ⟨S256, .f32⟩
  | 63 => ⟨S1x1x1x256, .f32⟩
  | 64 => ⟨S32x240x62x256, .f32⟩
  | 65 => ⟨S32x240x62x256, .f32⟩
  | 66 => ⟨S62x32x240x256, .f32⟩
  | 67 => ⟨S_, .f32⟩
  | 68 => ⟨S32x32x240x256, .f32⟩
  | 69 => ⟨S62x1, .i32⟩
  | 70 => ⟨S32x32x240x256, .f32⟩
  | 71 => ⟨S32x240x32x256, .f32⟩
  | 72 => ⟨S1x1x32x1, .f32⟩
  | 73 => ⟨S32x240x32x256, .f32⟩
  | 74 => ⟨S32x240x32x256, .f32⟩
  | 75 => ⟨S_, .f32⟩
  | 76 => ⟨S32x240x32x256, .f32⟩
  | 77 => ⟨S32x240x32x256, .f32⟩
  | 78 => ⟨S1x256x256, .f32⟩
  | 79 => ⟨S256x256, .f32⟩
  | 80 => ⟨S32x240x32x256, .f32⟩
  | 81 => ⟨S1x256, .f32⟩
  | 82 => ⟨S256, .f32⟩
  | 83 => ⟨S1x1x1x256, .f32⟩
  | 84 => ⟨S32x240x32x256, .f32⟩
  | 85 => ⟨S32x240x32x256, .f32⟩
  | 86 => ⟨S32x240x32x256, .f32⟩
  | 87 => ⟨S1x256, .f32⟩
  | 88 => ⟨S256, .f32⟩
  | 89 => ⟨S1x256, .f32⟩
  | 90 => ⟨S256, .f32⟩
  | 91 => ⟨S_, .f32⟩
  | 92 => ⟨S32x240x32, .f32⟩
  | 93 => ⟨S32x240x32x1, .f32⟩
  | 94 => ⟨S_, .f32⟩
  | 95 => ⟨S32x240x32x1, .f32⟩
  | 96 => ⟨S32x240x32x1, .f32⟩
  | 97 => ⟨S_, .i32⟩
  | 98 => ⟨S_, .f32⟩
  | 99 => ⟨S32x240x32, .f32⟩
  | 100 => ⟨S32x240x32x1, .f32⟩
  | 101 => ⟨S_, .f32⟩
  | 102 => ⟨S32x240x32x1, .f32⟩
  | 103 => ⟨S32x240x32x1, .f32⟩
  | 104 => ⟨S32x240x32x256, .f32⟩
  | 105 => ⟨S32x240x32x256, .f32⟩
  | 106 => ⟨S32x240x32x256, .f32⟩
  | 107 => ⟨S_, .f32⟩
  | 108 => ⟨S_, .f32⟩
  | 109 => ⟨S_, .f32⟩
  | 110 => ⟨S_, .f32⟩
  | 111 => ⟨S32x240x32, .f32⟩
  | 112 => ⟨S32x240x32x1, .f32⟩
  | 113 => ⟨S32x240x32x1, .f32⟩
  | 114 => ⟨S32x240x32x1, .f32⟩
  | 115 => ⟨S_, .f32⟩
  | 116 => ⟨S_, .i1⟩
  | 117 => ⟨S_, .f32⟩
  | 118 => ⟨S_, .f32⟩
  | 119 => ⟨S32x240x32x1, .f32⟩
  | 120 => ⟨S32x240x32x1, .f32⟩
  | 121 => ⟨S32x240x32x256, .f32⟩
  | 122 => ⟨S32x240x32x256, .f32⟩
  | 123 => ⟨S_, .f32⟩
  | 124 => ⟨S32x240x32x1, .f32⟩
  | 125 => ⟨S32x240x32x1, .f32⟩
  | 126 => ⟨S32x240x32x1, .f32⟩
  | 127 => ⟨S32x240x32x256, .f32⟩
  | _ => ⟨S32x240x32x256, .f32⟩

abbrev hbmTy0_1 (i : Nat) : BufTy := match i % 128 with
  | 0 => ⟨S32x240x32x256, .f32⟩
  | 1 => ⟨S1x1x1x256, .f32⟩
  | 2 => ⟨S32x240x32x256, .f32⟩
  | 3 => ⟨S32x240x32x256, .f32⟩
  | 4 => ⟨S1x1x1x256, .f32⟩
  | 5 => ⟨S32x240x32x256, .f32⟩
  | 6 => ⟨S32x240x32x256, .f32⟩
  | 7 => ⟨S_, .i32⟩
  | 8 => ⟨S_, .f32⟩
  | 9 => ⟨S32x242x32x256, .f32⟩
  | 10 => ⟨S32x240x32x256, .f32⟩
  | 11 => ⟨S1x1x256x256, .f32⟩
  | 12 => ⟨S256x256, .f32⟩
  | 13 => ⟨S32x240x32x256, .f32⟩
  | 14 => ⟨S32x240x32x256, .f32⟩
  | 15 => ⟨S1x1x256x256, .f32⟩
  | 16 => ⟨S256x256, .f32⟩
  | 17 => ⟨S32x240x32x256, .f32⟩
  | 18 => ⟨S32x240x32x256, .f32⟩
  | 19 => ⟨S32x240x32x256, .f32⟩
  | 20 => ⟨S1x1x256x256, .f32⟩
  | 21 => ⟨S256x256, .f32⟩
  | 22 => ⟨S32x240x32x256, .f32⟩
  | 23 => ⟨S32x240x32x256, .f32⟩
  | 24 => ⟨S1x256, .f32⟩
  | 25 => ⟨S256, .f32⟩
  | 26 => ⟨S1x1x1x256, .f32⟩
  | 27 => ⟨S32x240x32x256, .f32⟩
  | 28 => ⟨S32x240x32x256, .f32⟩
  | 29 => ⟨S_, .f32⟩
  | 30 => ⟨S32x240x32x256, .f32⟩
  | 31 => ⟨S32x240x32x256, .f32⟩
  | 32 => ⟨S32x240x32x256, .f32⟩
  | 33 => ⟨S1x256, .f32⟩
  | 34 => ⟨S256, .f32⟩
  | 35 => ⟨S1x256, .f32⟩
  | 36 => ⟨S256, .f32⟩
  | 37 => ⟨S_, .f32⟩
  | 38 => ⟨S32x240x32, .f32⟩
  | 39 => ⟨S32x240x32x1, .f32⟩
  | 40 => ⟨S_, .f32⟩
  | 41 => ⟨S32x240x32x1, .f32⟩
  | 42 => ⟨S32x240x32x1, .f32⟩
  | 43 => ⟨S_, .i32⟩
  | 44 => ⟨S_, .f32⟩
  | 45 => ⟨S32x240x32, .f32⟩
  | 46 => ⟨S32x240x32x1, .f32⟩
  | 47 => ⟨S_, .f32⟩
  | 48 => ⟨S32x240x32x1, .f32⟩
  | 49 => ⟨S32x240x32x1, .f32⟩
  | 50 => ⟨S32x240x32x256, .f32⟩
  | 51 => ⟨S32x240x32x256, .f32⟩
  | 52 => ⟨S32x240x32x256, .f32⟩
  | 53 => ⟨S_, .f32⟩
  | 54 => ⟨S_, .f32⟩
  | 55 => ⟨S_, .f32⟩
  | 56 => ⟨S_, .f32⟩
  | 57 => ⟨S32x240x32, .f32⟩
  | 58 => ⟨S32x240x32x1, .f32⟩
  | 59 => ⟨S32x240x32x1, .f32⟩
  | 60 => ⟨S32x240x32x1, .f32⟩
  | 61 => ⟨S_, .f32⟩
  | 62 => ⟨S_, .i1⟩
  | 63 => ⟨S_, .f32⟩
  | 64 => ⟨S_, .f32⟩
  | 65 => ⟨S32x240x32x1, .f32⟩
  | 66 => ⟨S32x240x32x1, .f32⟩
  | 67 => ⟨S32x240x32x256, .f32⟩
  | 68 => ⟨S32x240x32x256, .f32⟩
  | 69 => ⟨S_, .f32⟩
  | 70 => ⟨S32x240x32x1, .f32⟩
  | 71 => ⟨S32x240x32x1, .f32⟩
  | 72 => ⟨S32x240x32x1, .f32⟩
  | 73 => ⟨S32x240x32x256, .f32⟩
  | 74 => ⟨S32x240x32x256, .f32⟩
  | 75 => ⟨S1x1x1x256, .f32⟩
  | 76 => ⟨S32x240x32x256, .f32⟩
  | 77 => ⟨S32x240x32x256, .f32⟩
  | 78 => ⟨S1x1x1x256, .f32⟩
  | 79 => ⟨S32x240x32x256, .f32⟩
  | 80 => ⟨S32x240x32x256, .f32⟩
  | 81 => ⟨S_, .i32⟩
  | 82 => ⟨S62, .i32⟩
  | 83 => ⟨S62, .i1⟩
  | 84 => ⟨S_, .i32⟩
  | 85 => ⟨S62, .i32⟩
  | 86 => ⟨S62, .i32⟩
  | 87 => ⟨S62, .i32⟩
  | 88 => ⟨S62x1, .i32⟩
  | 89 => ⟨S1, .i32⟩
  | 90 => ⟨S_, .i32⟩
  | 91 => ⟨S62x1, .i32⟩
  | 92 => ⟨S62x1, .i1⟩
  | 93 => ⟨S1x1, .i32⟩
  | 94 => ⟨S62x1, .i32⟩
  | 95 => ⟨S62x1, .i1⟩
  | 96 => ⟨S62x1, .i1⟩
  | 97 => ⟨S_, .i1⟩
  | 98 => ⟨S62, .i1⟩
  | 99 => ⟨S32x240x62x256, .f32⟩
  | 100 => ⟨S32x240x62x256, .i1⟩
  | 101 => ⟨S_, .f32⟩
  | 102 => ⟨S32x240x62x256, .f32⟩
  | 103 => ⟨S32x240x62x256, .f32⟩
  | 104 => ⟨S1x256x256, .f32⟩
  | 105 => ⟨S256x256, .f32⟩
  | 106 => ⟨S32x240x62x256, .f32⟩
  | 107 => ⟨S1x256, .f32⟩
  | 108 => ⟨S256, .f32⟩
  | 109 => ⟨S1x1x1x256, .f32⟩
  | 110 => ⟨S32x240x62x256, .f32⟩
  | 111 => ⟨S32x240x62x256, .f32⟩
  | 112 => ⟨S62x32x240x256, .f32⟩
  | 113 => ⟨S_, .f32⟩
  | 114 => ⟨S32x32x240x256, .f32⟩
  | 115 => ⟨S62x1, .i32⟩
  | 116 => ⟨S32x32x240x256, .f32⟩
  | 117 => ⟨S32x240x32x256, .f32⟩
  | 118 => ⟨S1x1x32x1, .f32⟩
  | 119 => ⟨S32x240x32x256, .f32⟩
  | 120 => ⟨S32x240x32x256, .f32⟩
  | 121 => ⟨S_, .f32⟩
  | 122 => ⟨S32x240x32x256, .f32⟩
  | 123 => ⟨S32x240x32x256, .f32⟩
  | 124 => ⟨S1x256x256, .f32⟩
  | 125 => ⟨S256x256, .f32⟩
  | 126 => ⟨S32x240x32x256, .f32⟩
  | 127 => ⟨S1x256, .f32⟩
  | _ => ⟨S32x240x32x256, .f32⟩

abbrev hbmTy0_2 (i : Nat) : BufTy := match i % 128 with
  | 0 => ⟨S256, .f32⟩
  | 1 => ⟨S1x1x1x256, .f32⟩
  | 2 => ⟨S32x240x32x256, .f32⟩
  | 3 => ⟨S32x240x32x256, .f32⟩
  | 4 => ⟨S32x240x32x256, .f32⟩
  | 5 => ⟨S1x256, .f32⟩
  | 6 => ⟨S256, .f32⟩
  | 7 => ⟨S1x256, .f32⟩
  | 8 => ⟨S256, .f32⟩
  | 9 => ⟨S_, .f32⟩
  | 10 => ⟨S32x240x32, .f32⟩
  | 11 => ⟨S32x240x32x1, .f32⟩
  | 12 => ⟨S_, .f32⟩
  | 13 => ⟨S32x240x32x1, .f32⟩
  | 14 => ⟨S32x240x32x1, .f32⟩
  | 15 => ⟨S_, .i32⟩
  | 16 => ⟨S_, .f32⟩
  | 17 => ⟨S32x240x32, .f32⟩
  | 18 => ⟨S32x240x32x1, .f32⟩
  | 19 => ⟨S_, .f32⟩
  | 20 => ⟨S32x240x32x1, .f32⟩
  | 21 => ⟨S32x240x32x1, .f32⟩
  | 22 => ⟨S32x240x32x256, .f32⟩
  | 23 => ⟨S32x240x32x256, .f32⟩
  | 24 => ⟨S32x240x32x256, .f32⟩
  | 25 => ⟨S_, .f32⟩
  | 26 => ⟨S_, .f32⟩
  | 27 => ⟨S_, .f32⟩
  | 28 => ⟨S_, .f32⟩
  | 29 => ⟨S32x240x32, .f32⟩
  | 30 => ⟨S32x240x32x1, .f32⟩
  | 31 => ⟨S32x240x32x1, .f32⟩
  | 32 => ⟨S32x240x32x1, .f32⟩
  | 33 => ⟨S_, .f32⟩
  | 34 => ⟨S_, .i1⟩
  | 35 => ⟨S_, .f32⟩
  | 36 => ⟨S_, .f32⟩
  | 37 => ⟨S32x240x32x1, .f32⟩
  | 38 => ⟨S32x240x32x1, .f32⟩
  | 39 => ⟨S32x240x32x256, .f32⟩
  | 40 => ⟨S32x240x32x256, .f32⟩
  | 41 => ⟨S_, .f32⟩
  | 42 => ⟨S32x240x32x1, .f32⟩
  | 43 => ⟨S32x240x32x1, .f32⟩
  | 44 => ⟨S32x240x32x1, .f32⟩
  | 45 => ⟨S32x240x32x256, .f32⟩
  | 46 => ⟨S32x240x32x256, .f32⟩
  | 47 => ⟨S1x1x1x256, .f32⟩
  | 48 => ⟨S32x240x32x256, .f32⟩
  | 49 => ⟨S32x240x32x256, .f32⟩
  | 50 => ⟨S1x1x1x256, .f32⟩
  | 51 => ⟨S32x240x32x256, .f32⟩
  | 52 => ⟨S32x240x32x256, .f32⟩
  | 53 => ⟨S_, .i32⟩
  | 54 => ⟨S_, .f32⟩
  | 55 => ⟨S32x242x32x256, .f32⟩
  | 56 => ⟨S32x240x32x256, .f32⟩
  | 57 => ⟨S1x1x256x256, .f32⟩
  | 58 => ⟨S256x256, .f32⟩
  | 59 => ⟨S32x240x32x256, .f32⟩
  | 60 => ⟨S32x240x32x256, .f32⟩
  | 61 => ⟨S1x1x256x256, .f32⟩
  | 62 => ⟨S256x256, .f32⟩
  | 63 => ⟨S32x240x32x256, .f32⟩
  | 64 => ⟨S32x240x32x256, .f32⟩
  | 65 => ⟨S32x240x32x256, .f32⟩
  | 66 => ⟨S1x1x256x256, .f32⟩
  | 67 => ⟨S256x256, .f32⟩
  | 68 => ⟨S32x240x32x256, .f32⟩
  | 69 => ⟨S32x240x32x256, .f32⟩
  | 70 => ⟨S1x256, .f32⟩
  | 71 => ⟨S256, .f32⟩
  | 72 => ⟨S1x1x1x256, .f32⟩
  | 73 => ⟨S32x240x32x256, .f32⟩
  | 74 => ⟨S32x240x32x256, .f32⟩
  | 75 => ⟨S_, .f32⟩
  | 76 => ⟨S32x240x32x256, .f32⟩
  | 77 => ⟨S32x240x32x256, .f32⟩
  | 78 => ⟨S32x240x32x256, .f32⟩
  | 79 => ⟨S1x256, .f32⟩
  | 80 => ⟨S256, .f32⟩
  | 81 => ⟨S1x256, .f32⟩
  | 82 => ⟨S256, .f32⟩
  | 83 => ⟨S_, .f32⟩
  | 84 => ⟨S32x240x32, .f32⟩
  | 85 => ⟨S32x240x32x1, .f32⟩
  | 86 => ⟨S_, .f32⟩
  | 87 => ⟨S32x240x32x1, .f32⟩
  | 88 => ⟨S32x240x32x1, .f32⟩
  | 89 => ⟨S_, .i32⟩
  | 90 => ⟨S_, .f32⟩
  | 91 => ⟨S32x240x32, .f32⟩
  | 92 => ⟨S32x240x32x1, .f32⟩
  | 93 => ⟨S_, .f32⟩
  | 94 => ⟨S32x240x32x1, .f32⟩
  | 95 => ⟨S32x240x32x1, .f32⟩
  | 96 => ⟨S32x240x32x256, .f32⟩
  | 97 => ⟨S32x240x32x256, .f32⟩
  | 98 => ⟨S32x240x32x256, .f32⟩
  | 99 => ⟨S_, .f32⟩
  | 100 => ⟨S_, .f32⟩
  | 101 => ⟨S_, .f32⟩
  | 102 => ⟨S_, .f32⟩
  | 103 => ⟨S32x240x32, .f32⟩
  | 104 => ⟨S32x240x32x1, .f32⟩
  | 105 => ⟨S32x240x32x1, .f32⟩
  | 106 => ⟨S32x240x32x1, .f32⟩
  | 107 => ⟨S_, .f32⟩
  | 108 => ⟨S_, .i1⟩
  | 109 => ⟨S_, .f32⟩
  | 110 => ⟨S_, .f32⟩
  | 111 => ⟨S32x240x32x1, .f32⟩
  | 112 => ⟨S32x240x32x1, .f32⟩
  | 113 => ⟨S32x240x32x256, .f32⟩
  | 114 => ⟨S32x240x32x256, .f32⟩
  | 115 => ⟨S_, .f32⟩
  | 116 => ⟨S32x240x32x1, .f32⟩
  | 117 => ⟨S32x240x32x1, .f32⟩
  | 118 => ⟨S32x240x32x1, .f32⟩
  | 119 => ⟨S32x240x32x256, .f32⟩
  | 120 => ⟨S32x240x32x256, .f32⟩
  | 121 => ⟨S1x1x1x256, .f32⟩
  | 122 => ⟨S32x240x32x256, .f32⟩
  | 123 => ⟨S32x240x32x256, .f32⟩
  | 124 => ⟨S1x1x1x256, .f32⟩
  | 125 => ⟨S32x240x32x256, .f32⟩
  | 126 => ⟨S32x240x32x256, .f32⟩
  | 127 => ⟨S_, .i32⟩
  | _ => ⟨S32x240x32x256, .f32⟩

abbrev hbmTy0_3 (i : Nat) : BufTy := match i % 128 with
  | 0 => ⟨S62, .i32⟩
  | 1 => ⟨S62, .i1⟩
  | 2 => ⟨S_, .i32⟩
  | 3 => ⟨S62, .i32⟩
  | 4 => ⟨S62, .i32⟩
  | 5 => ⟨S62, .i32⟩
  | 6 => ⟨S62x1, .i32⟩
  | 7 => ⟨S1, .i32⟩
  | 8 => ⟨S_, .i32⟩
  | 9 => ⟨S62x1, .i32⟩
  | 10 => ⟨S62x1, .i1⟩
  | 11 => ⟨S1x1, .i32⟩
  | 12 => ⟨S62x1, .i32⟩
  | 13 => ⟨S62x1, .i1⟩
  | 14 => ⟨S62x1, .i1⟩
  | 15 => ⟨S_, .i1⟩
  | 16 => ⟨S62, .i1⟩
  | 17 => ⟨S32x240x62x256, .f32⟩
  | 18 => ⟨S32x240x62x256, .i1⟩
  | 19 => ⟨S_, .f32⟩
  | 20 => ⟨S32x240x62x256, .f32⟩
  | 21 => ⟨S32x240x62x256, .f32⟩
  | 22 => ⟨S1x256x256, .f32⟩
  | 23 => ⟨S256x256, .f32⟩
  | 24 => ⟨S32x240x62x256, .f32⟩
  | 25 => ⟨S1x256, .f32⟩
  | 26 => ⟨S256, .f32⟩
  | 27 => ⟨S1x1x1x256, .f32⟩
  | 28 => ⟨S32x240x62x256, .f32⟩
  | 29 => ⟨S32x240x62x256, .f32⟩
  | 30 => ⟨S62x32x240x256, .f32⟩
  | 31 => ⟨S_, .f32⟩
  | 32 => ⟨S32x32x240x256, .f32⟩
  | 33 => ⟨S62x1, .i32⟩
  | 34 => ⟨S32x32x240x256, .f32⟩
  | 35 => ⟨S32x240x32x256, .f32⟩
  | 36 => ⟨S1x1x32x1, .f32⟩
  | 37 => ⟨S32x240x32x256, .f32⟩
  | 38 => ⟨S32x240x32x256, .f32⟩
  | 39 => ⟨S_, .f32⟩
  | 40 => ⟨S32x240x32x256, .f32⟩
  | 41 => ⟨S32x240x32x256, .f32⟩
  | 42 => ⟨S1x256x256, .f32⟩
  | 43 => ⟨S256x256, .f32⟩
  | 44 => ⟨S32x240x32x256, .f32⟩
  | 45 => ⟨S1x256, .f32⟩
  | 46 => ⟨S256, .f32⟩
  | 47 => ⟨S1x1x1x256, .f32⟩
  | 48 => ⟨S32x240x32x256, .f32⟩
  | 49 => ⟨S32x240x32x256, .f32⟩
  | 50 => ⟨S32x240x32x256, .f32⟩
  | 51 => ⟨S1x256, .f32⟩
  | 52 => ⟨S256, .f32⟩
  | 53 => ⟨S1x256, .f32⟩
  | 54 => ⟨S256, .f32⟩
  | 55 => ⟨S_, .f32⟩
  | 56 => ⟨S32x240x32, .f32⟩
  | 57 => ⟨S32x240x32x1, .f32⟩
  | 58 => ⟨S_, .f32⟩
  | 59 => ⟨S32x240x32x1, .f32⟩
  | 60 => ⟨S32x240x32x1, .f32⟩
  | 61 => ⟨S_, .i32⟩
  | 62 => ⟨S_, .f32⟩
  | 63 => ⟨S32x240x32, .f32⟩
  | 64 => ⟨S32x240x32x1, .f32⟩
  | 65 => ⟨S_, .f32⟩
  | 66 => ⟨S32x240x32x1, .f32⟩
  | 67 => ⟨S32x240x32x1, .f32⟩
  | 68 => ⟨S32x240x32x256, .f32⟩
  | 69 => ⟨S32x240x32x256, .f32⟩
  | 70 => ⟨S32x240x32x256, .f32⟩
  | 71 => ⟨S_, .f32⟩
  | 72 => ⟨S_, .f32⟩
  | 73 => ⟨S_, .f32⟩
  | 74 => ⟨S_, .f32⟩
  | 75 => ⟨S32x240x32, .f32⟩
  | 76 => ⟨S32x240x32x1, .f32⟩
  | 77 => ⟨S32x240x32x1, .f32⟩
  | 78 => ⟨S32x240x32x1, .f32⟩
  | 79 => ⟨S_, .f32⟩
  | 80 => ⟨S_, .i1⟩
  | 81 => ⟨S_, .f32⟩
  | 82 => ⟨S_, .f32⟩
  | 83 => ⟨S32x240x32x1, .f32⟩
  | 84 => ⟨S32x240x32x1, .f32⟩
  | 85 => ⟨S32x240x32x256, .f32⟩
  | 86 => ⟨S32x240x32x256, .f32⟩
  | 87 => ⟨S_, .f32⟩
  | 88 => ⟨S32x240x32x1, .f32⟩
  | 89 => ⟨S32x240x32x1, .f32⟩
  | 90 => ⟨S32x240x32x1, .f32⟩
  | 91 => ⟨S32x240x32x256, .f32⟩
  | 92 => ⟨S32x240x32x256, .f32⟩
  | 93 => ⟨S1x1x1x256, .f32⟩
  | 94 => ⟨S32x240x32x256, .f32⟩
  | 95 => ⟨S32x240x32x256, .f32⟩
  | 96 => ⟨S1x1x1x256, .f32⟩
  | 97 => ⟨S32x240x32x256, .f32⟩
  | 98 => ⟨S32x240x32x256, .f32⟩
  | 99 => ⟨S_, .i32⟩
  | 100 => ⟨S_, .f32⟩
  | 101 => ⟨S32x242x32x256, .f32⟩
  | 102 => ⟨S32x240x32x256, .f32⟩
  | 103 => ⟨S1x1x256x256, .f32⟩
  | 104 => ⟨S256x256, .f32⟩
  | 105 => ⟨S32x240x32x256, .f32⟩
  | 106 => ⟨S32x240x32x256, .f32⟩
  | 107 => ⟨S1x1x256x256, .f32⟩
  | 108 => ⟨S256x256, .f32⟩
  | 109 => ⟨S32x240x32x256, .f32⟩
  | 110 => ⟨S32x240x32x256, .f32⟩
  | 111 => ⟨S32x240x32x256, .f32⟩
  | 112 => ⟨S1x1x256x256, .f32⟩
  | 113 => ⟨S256x256, .f32⟩
  | 114 => ⟨S32x240x32x256, .f32⟩
  | 115 => ⟨S32x240x32x256, .f32⟩
  | 116 => ⟨S1x256, .f32⟩
  | 117 => ⟨S256, .f32⟩
  | 118 => ⟨S1x1x1x256, .f32⟩
  | 119 => ⟨S32x240x32x256, .f32⟩
  | 120 => ⟨S32x240x32x256, .f32⟩
  | 121 => ⟨S_, .f32⟩
  | 122 => ⟨S32x240x32x256, .f32⟩
  | 123 => ⟨S32x240x32x256, .f32⟩
  | 124 => ⟨S32x240x32x256, .f32⟩
  | 125 => ⟨S1x256, .f32⟩
  | 126 => ⟨S256, .f32⟩
  | 127 => ⟨S1x256, .f32⟩
  | _ => ⟨S32x240x32x256, .f32⟩

abbrev hbmTy0_4 (i : Nat) : BufTy := match i % 128 with
  | 0 => ⟨S256, .f32⟩
  | 1 => ⟨S_, .f32⟩
  | 2 => ⟨S32x240x32, .f32⟩
  | 3 => ⟨S32x240x32x1, .f32⟩
  | 4 => ⟨S_, .f32⟩
  | 5 => ⟨S32x240x32x1, .f32⟩
  | 6 => ⟨S32x240x32x1, .f32⟩
  | 7 => ⟨S_, .i32⟩
  | 8 => ⟨S_, .f32⟩
  | 9 => ⟨S32x240x32, .f32⟩
  | 10 => ⟨S32x240x32x1, .f32⟩
  | 11 => ⟨S_, .f32⟩
  | 12 => ⟨S32x240x32x1, .f32⟩
  | 13 => ⟨S32x240x32x1, .f32⟩
  | 14 => ⟨S32x240x32x256, .f32⟩
  | 15 => ⟨S32x240x32x256, .f32⟩
  | 16 => ⟨S32x240x32x256, .f32⟩
  | 17 => ⟨S_, .f32⟩
  | 18 => ⟨S_, .f32⟩
  | 19 => ⟨S_, .f32⟩
  | 20 => ⟨S_, .f32⟩
  | 21 => ⟨S32x240x32, .f32⟩
  | 22 => ⟨S32x240x32x1, .f32⟩
  | 23 => ⟨S32x240x32x1, .f32⟩
  | 24 => ⟨S32x240x32x1, .f32⟩
  | 25 => ⟨S_, .f32⟩
  | 26 => ⟨S_, .i1⟩
  | 27 => ⟨S_, .f32⟩
  | 28 => ⟨S_, .f32⟩
  | 29 => ⟨S32x240x32x1, .f32⟩
  | 30 => ⟨S32x240x32x1, .f32⟩
  | 31 => ⟨S32x240x32x256, .f32⟩
  | 32 => ⟨S32x240x32x256, .f32⟩
  | 33 => ⟨S_, .f32⟩
  | 34 => ⟨S32x240x32x1, .f32⟩
  | 35 => ⟨S32x240x32x1, .f32⟩
  | 36 => ⟨S32x240x32x1, .f32⟩
  | 37 => ⟨S32x240x32x256, .f32⟩
  | 38 => ⟨S32x240x32x256, .f32⟩
  | 39 => ⟨S1x1x1x256, .f32⟩
  | 40 => ⟨S32x240x32x256, .f32⟩
  | 41 => ⟨S32x240x32x256, .f32⟩
  | 42 => ⟨S1x1x1x256, .f32⟩
  | 43 => ⟨S32x240x32x256, .f32⟩
  | 44 => ⟨S32x240x32x256, .f32⟩
  | 45 => ⟨S32x240x32x3, .f32⟩
  | 46 => ⟨S1x1x1x3, .f32⟩
  | 47 => ⟨S32x240x32x3, .f32⟩
  | 48 => ⟨S32x240x32x3, .f32⟩
  | _ => ⟨S32x240x32x256, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S32x240x32x256, .f32⟩

abbrev bufTy : (tb : Table) → Fin (tcTables nBuf tb) → BufTy
  | .hbm, ⟨i, _⟩ => hbmTy i
  | _, _ => ⟨S32x240x32x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst : Ref sig .tc := ⟨.hbm, 18, rfl⟩
abbrev main_v4 : Ref sig .tc := ⟨.hbm, 19, rfl⟩
abbrev main_c : Ref sig .tc := ⟨.hbm, 20, rfl⟩
abbrev main_v5 : Ref sig .tc := ⟨.hbm, 21, rfl⟩
abbrev main_v6 : Ref sig .tc := ⟨.hbm, 22, rfl⟩
abbrev main_c_0 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_cst_1 : Ref sig .tc := ⟨.hbm, 28, rfl⟩
abbrev main_v11 : Ref sig .tc := ⟨.hbm, 29, rfl⟩
abbrev main_v12 : Ref sig .tc := ⟨.hbm, 30, rfl⟩
abbrev main_cst_2 : Ref sig .tc := ⟨.hbm, 31, rfl⟩
abbrev main_call0_v0 : Ref sig .tc := ⟨.hbm, 32, rfl⟩
abbrev main_call0_v1 : Ref sig .tc := ⟨.hbm, 33, rfl⟩
abbrev main_v13 : Ref sig .tc := ⟨.hbm, 34, rfl⟩
abbrev main_call1_c : Ref sig .tc := ⟨.hbm, 35, rfl⟩
abbrev main_call1_v0 : Ref sig .tc := ⟨.hbm, 36, rfl⟩
abbrev main_call1_v1 : Ref sig .tc := ⟨.hbm, 37, rfl⟩
abbrev main_call1_c_0 : Ref sig .tc := ⟨.hbm, 38, rfl⟩
abbrev main_call1_v2 : Ref sig .tc := ⟨.hbm, 39, rfl⟩
abbrev main_call1_v3 : Ref sig .tc := ⟨.hbm, 40, rfl⟩
abbrev main_call1_v4 : Ref sig .tc := ⟨.hbm, 41, rfl⟩
abbrev main_call1_v5 : Ref sig .tc := ⟨.hbm, 42, rfl⟩
abbrev main_call1_c_1 : Ref sig .tc := ⟨.hbm, 43, rfl⟩
abbrev main_call1_c_2 : Ref sig .tc := ⟨.hbm, 44, rfl⟩
abbrev main_call1_v6 : Ref sig .tc := ⟨.hbm, 45, rfl⟩
abbrev main_call1_v7 : Ref sig .tc := ⟨.hbm, 46, rfl⟩
abbrev main_call1_v8 : Ref sig .tc := ⟨.hbm, 47, rfl⟩
abbrev main_call1_v9 : Ref sig .tc := ⟨.hbm, 48, rfl⟩
abbrev main_call1_v10 : Ref sig .tc := ⟨.hbm, 49, rfl⟩
abbrev main_call1_v11 : Ref sig .tc := ⟨.hbm, 50, rfl⟩
abbrev main_call1_c_3 : Ref sig .tc := ⟨.hbm, 51, rfl⟩
abbrev main_call1_v12 : Ref sig .tc := ⟨.hbm, 52, rfl⟩
abbrev main_call1_v13 : Ref sig .tc := ⟨.hbm, 53, rfl⟩
abbrev main_call1_v14 : Ref sig .tc := ⟨.hbm, 54, rfl⟩
abbrev main_call1_cst : Ref sig .tc := ⟨.hbm, 55, rfl⟩
abbrev main_call1_v15 : Ref sig .tc := ⟨.hbm, 56, rfl⟩
abbrev main_v14 : Ref sig .tc := ⟨.hbm, 57, rfl⟩
abbrev main_v15 : Ref sig .tc := ⟨.hbm, 58, rfl⟩
abbrev main_v16 : Ref sig .tc := ⟨.hbm, 59, rfl⟩
abbrev main_v17 : Ref sig .tc := ⟨.hbm, 60, rfl⟩
abbrev main_v18 : Ref sig .tc := ⟨.hbm, 61, rfl⟩
abbrev main_v19 : Ref sig .tc := ⟨.hbm, 62, rfl⟩
abbrev main_v20 : Ref sig .tc := ⟨.hbm, 63, rfl⟩
abbrev main_v21 : Ref sig .tc := ⟨.hbm, 64, rfl⟩
abbrev main_v22 : Ref sig .tc := ⟨.hbm, 65, rfl⟩
abbrev main_v23 : Ref sig .tc := ⟨.hbm, 66, rfl⟩
abbrev main_cst_3 : Ref sig .tc := ⟨.hbm, 67, rfl⟩
abbrev main_v24 : Ref sig .tc := ⟨.hbm, 68, rfl⟩
abbrev main_v25 : Ref sig .tc := ⟨.hbm, 69, rfl⟩
abbrev main_v26 : Ref sig .tc := ⟨.hbm, 70, rfl⟩
abbrev main_v27 : Ref sig .tc := ⟨.hbm, 71, rfl⟩
abbrev main_v28 : Ref sig .tc := ⟨.hbm, 72, rfl⟩
abbrev main_v29 : Ref sig .tc := ⟨.hbm, 73, rfl⟩
abbrev main_v30 : Ref sig .tc := ⟨.hbm, 74, rfl⟩
abbrev main_call2_cst : Ref sig .tc := ⟨.hbm, 75, rfl⟩
abbrev main_call2_v0 : Ref sig .tc := ⟨.hbm, 76, rfl⟩
abbrev main_v31 : Ref sig .tc := ⟨.hbm, 77, rfl⟩
abbrev main_v32 : Ref sig .tc := ⟨.hbm, 78, rfl⟩
abbrev main_v33 : Ref sig .tc := ⟨.hbm, 79, rfl⟩
abbrev main_v34 : Ref sig .tc := ⟨.hbm, 80, rfl⟩
abbrev main_v35 : Ref sig .tc := ⟨.hbm, 81, rfl⟩
abbrev main_v36 : Ref sig .tc := ⟨.hbm, 82, rfl⟩
abbrev main_v37 : Ref sig .tc := ⟨.hbm, 83, rfl⟩
abbrev main_v38 : Ref sig .tc := ⟨.hbm, 84, rfl⟩
abbrev main_v39 : Ref sig .tc := ⟨.hbm, 85, rfl⟩
abbrev main_v40 : Ref sig .tc := ⟨.hbm, 86, rfl⟩
abbrev main_v41 : Ref sig .tc := ⟨.hbm, 87, rfl⟩
abbrev main_v42 : Ref sig .tc := ⟨.hbm, 88, rfl⟩
abbrev main_v43 : Ref sig .tc := ⟨.hbm, 89, rfl⟩
abbrev main_v44 : Ref sig .tc := ⟨.hbm, 90, rfl⟩
abbrev main_cst_4 : Ref sig .tc := ⟨.hbm, 91, rfl⟩
abbrev main_v45 : Ref sig .tc := ⟨.hbm, 92, rfl⟩
abbrev main_v46 : Ref sig .tc := ⟨.hbm, 93, rfl⟩
abbrev main_cst_5 : Ref sig .tc := ⟨.hbm, 94, rfl⟩
abbrev main_v47 : Ref sig .tc := ⟨.hbm, 95, rfl⟩
abbrev main_v48 : Ref sig .tc := ⟨.hbm, 96, rfl⟩
abbrev main_c_6 : Ref sig .tc := ⟨.hbm, 97, rfl⟩
abbrev main_call3_cst : Ref sig .tc := ⟨.hbm, 98, rfl⟩
abbrev main_call3_v0 : Ref sig .tc := ⟨.hbm, 99, rfl⟩
abbrev main_call3_v1 : Ref sig .tc := ⟨.hbm, 100, rfl⟩
abbrev main_call3_cst_0 : Ref sig .tc := ⟨.hbm, 101, rfl⟩
abbrev main_call3_v2 : Ref sig .tc := ⟨.hbm, 102, rfl⟩
abbrev main_call3_v3 : Ref sig .tc := ⟨.hbm, 103, rfl⟩
abbrev main_call3_v4 : Ref sig .tc := ⟨.hbm, 104, rfl⟩
abbrev main_call3_v5 : Ref sig .tc := ⟨.hbm, 105, rfl⟩
abbrev main_call3_v6 : Ref sig .tc := ⟨.hbm, 106, rfl⟩
abbrev main_call3_v7 : Ref sig .tc := ⟨.hbm, 107, rfl⟩
abbrev main_call3_cst_1 : Ref sig .tc := ⟨.hbm, 108, rfl⟩
abbrev main_call3_v8 : Ref sig .tc := ⟨.hbm, 109, rfl⟩
abbrev main_call3_cst_2 : Ref sig .tc := ⟨.hbm, 110, rfl⟩
abbrev main_call3_v9 : Ref sig .tc := ⟨.hbm, 111, rfl⟩
abbrev main_call3_v10 : Ref sig .tc := ⟨.hbm, 112, rfl⟩
abbrev main_call3_v11 : Ref sig .tc := ⟨.hbm, 113, rfl⟩
abbrev main_call3_v12 : Ref sig .tc := ⟨.hbm, 114, rfl⟩
abbrev main_call3_cst_3 : Ref sig .tc := ⟨.hbm, 115, rfl⟩
abbrev main_call3_v13 : Ref sig .tc := ⟨.hbm, 116, rfl⟩
abbrev main_call3_cst_4 : Ref sig .tc := ⟨.hbm, 117, rfl⟩
abbrev main_call3_call0_v0 : Ref sig .tc := ⟨.hbm, 118, rfl⟩
abbrev main_call3_call0_v1 : Ref sig .tc := ⟨.hbm, 119, rfl⟩
abbrev main_v49 : Ref sig .tc := ⟨.hbm, 120, rfl⟩
abbrev main_v50 : Ref sig .tc := ⟨.hbm, 121, rfl⟩
abbrev main_v51 : Ref sig .tc := ⟨.hbm, 122, rfl⟩
abbrev main_cst_7 : Ref sig .tc := ⟨.hbm, 123, rfl⟩
abbrev main_v52 : Ref sig .tc := ⟨.hbm, 124, rfl⟩
abbrev main_v53 : Ref sig .tc := ⟨.hbm, 125, rfl⟩
abbrev main_v54 : Ref sig .tc := ⟨.hbm, 126, rfl⟩
abbrev main_v55 : Ref sig .tc := ⟨.hbm, 127, rfl⟩
abbrev main_v56 : Ref sig .tc := ⟨.hbm, 128, rfl⟩
abbrev main_v57 : Ref sig .tc := ⟨.hbm, 129, rfl⟩
abbrev main_v58 : Ref sig .tc := ⟨.hbm, 130, rfl⟩
abbrev main_v59 : Ref sig .tc := ⟨.hbm, 131, rfl⟩
abbrev main_v60 : Ref sig .tc := ⟨.hbm, 132, rfl⟩
abbrev main_v61 : Ref sig .tc := ⟨.hbm, 133, rfl⟩
abbrev main_v62 : Ref sig .tc := ⟨.hbm, 134, rfl⟩
abbrev main_c_8 : Ref sig .tc := ⟨.hbm, 135, rfl⟩
abbrev main_call4_v0 : Ref sig .tc := ⟨.hbm, 136, rfl⟩
abbrev main_v63 : Ref sig .tc := ⟨.hbm, 137, rfl⟩
abbrev main_v64 : Ref sig .tc := ⟨.hbm, 138, rfl⟩
abbrev main_v65 : Ref sig .tc := ⟨.hbm, 139, rfl⟩
abbrev main_v66 : Ref sig .tc := ⟨.hbm, 140, rfl⟩
abbrev main_v67 : Ref sig .tc := ⟨.hbm, 141, rfl⟩
abbrev main_v68 : Ref sig .tc := ⟨.hbm, 142, rfl⟩
abbrev main_v69 : Ref sig .tc := ⟨.hbm, 143, rfl⟩
abbrev main_v70 : Ref sig .tc := ⟨.hbm, 144, rfl⟩
abbrev main_v71 : Ref sig .tc := ⟨.hbm, 145, rfl⟩
abbrev main_v72 : Ref sig .tc := ⟨.hbm, 146, rfl⟩
abbrev main_v73 : Ref sig .tc := ⟨.hbm, 147, rfl⟩
abbrev main_v74 : Ref sig .tc := ⟨.hbm, 148, rfl⟩
abbrev main_v75 : Ref sig .tc := ⟨.hbm, 149, rfl⟩
abbrev main_v76 : Ref sig .tc := ⟨.hbm, 150, rfl⟩
abbrev main_v77 : Ref sig .tc := ⟨.hbm, 151, rfl⟩
abbrev main_v78 : Ref sig .tc := ⟨.hbm, 152, rfl⟩
abbrev main_v79 : Ref sig .tc := ⟨.hbm, 153, rfl⟩
abbrev main_v80 : Ref sig .tc := ⟨.hbm, 154, rfl⟩
abbrev main_v81 : Ref sig .tc := ⟨.hbm, 155, rfl⟩
abbrev main_v82 : Ref sig .tc := ⟨.hbm, 156, rfl⟩
abbrev main_call5_cst : Ref sig .tc := ⟨.hbm, 157, rfl⟩
abbrev main_call5_v0 : Ref sig .tc := ⟨.hbm, 158, rfl⟩
abbrev main_v83 : Ref sig .tc := ⟨.hbm, 159, rfl⟩
abbrev main_v84 : Ref sig .tc := ⟨.hbm, 160, rfl⟩
abbrev main_v85 : Ref sig .tc := ⟨.hbm, 161, rfl⟩
abbrev main_v86 : Ref sig .tc := ⟨.hbm, 162, rfl⟩
abbrev main_v87 : Ref sig .tc := ⟨.hbm, 163, rfl⟩
abbrev main_v88 : Ref sig .tc := ⟨.hbm, 164, rfl⟩
abbrev main_cst_9 : Ref sig .tc := ⟨.hbm, 165, rfl⟩
abbrev main_v89 : Ref sig .tc := ⟨.hbm, 166, rfl⟩
abbrev main_v90 : Ref sig .tc := ⟨.hbm, 167, rfl⟩
abbrev main_cst_10 : Ref sig .tc := ⟨.hbm, 168, rfl⟩
abbrev main_v91 : Ref sig .tc := ⟨.hbm, 169, rfl⟩
abbrev main_v92 : Ref sig .tc := ⟨.hbm, 170, rfl⟩
abbrev main_c_11 : Ref sig .tc := ⟨.hbm, 171, rfl⟩
abbrev main_call6_cst : Ref sig .tc := ⟨.hbm, 172, rfl⟩
abbrev main_call6_v0 : Ref sig .tc := ⟨.hbm, 173, rfl⟩
abbrev main_call6_v1 : Ref sig .tc := ⟨.hbm, 174, rfl⟩
abbrev main_call6_cst_0 : Ref sig .tc := ⟨.hbm, 175, rfl⟩
abbrev main_call6_v2 : Ref sig .tc := ⟨.hbm, 176, rfl⟩
abbrev main_call6_v3 : Ref sig .tc := ⟨.hbm, 177, rfl⟩
abbrev main_call6_v4 : Ref sig .tc := ⟨.hbm, 178, rfl⟩
abbrev main_call6_v5 : Ref sig .tc := ⟨.hbm, 179, rfl⟩
abbrev main_call6_v6 : Ref sig .tc := ⟨.hbm, 180, rfl⟩
abbrev main_call6_v7 : Ref sig .tc := ⟨.hbm, 181, rfl⟩
abbrev main_call6_cst_1 : Ref sig .tc := ⟨.hbm, 182, rfl⟩
abbrev main_call6_v8 : Ref sig .tc := ⟨.hbm, 183, rfl⟩
abbrev main_call6_cst_2 : Ref sig .tc := ⟨.hbm, 184, rfl⟩
abbrev main_call6_v9 : Ref sig .tc := ⟨.hbm, 185, rfl⟩
abbrev main_call6_v10 : Ref sig .tc := ⟨.hbm, 186, rfl⟩
abbrev main_call6_v11 : Ref sig .tc := ⟨.hbm, 187, rfl⟩
abbrev main_call6_v12 : Ref sig .tc := ⟨.hbm, 188, rfl⟩
abbrev main_call6_cst_3 : Ref sig .tc := ⟨.hbm, 189, rfl⟩
abbrev main_call6_v13 : Ref sig .tc := ⟨.hbm, 190, rfl⟩
abbrev main_call6_cst_4 : Ref sig .tc := ⟨.hbm, 191, rfl⟩
abbrev main_call6_call0_v0 : Ref sig .tc := ⟨.hbm, 192, rfl⟩
abbrev main_call6_call0_v1 : Ref sig .tc := ⟨.hbm, 193, rfl⟩
abbrev main_v93 : Ref sig .tc := ⟨.hbm, 194, rfl⟩
abbrev main_v94 : Ref sig .tc := ⟨.hbm, 195, rfl⟩
abbrev main_v95 : Ref sig .tc := ⟨.hbm, 196, rfl⟩
abbrev main_cst_12 : Ref sig .tc := ⟨.hbm, 197, rfl⟩
abbrev main_v96 : Ref sig .tc := ⟨.hbm, 198, rfl⟩
abbrev main_v97 : Ref sig .tc := ⟨.hbm, 199, rfl⟩
abbrev main_v98 : Ref sig .tc := ⟨.hbm, 200, rfl⟩
abbrev main_v99 : Ref sig .tc := ⟨.hbm, 201, rfl⟩
abbrev main_v100 : Ref sig .tc := ⟨.hbm, 202, rfl⟩
abbrev main_v101 : Ref sig .tc := ⟨.hbm, 203, rfl⟩
abbrev main_v102 : Ref sig .tc := ⟨.hbm, 204, rfl⟩
abbrev main_v103 : Ref sig .tc := ⟨.hbm, 205, rfl⟩
abbrev main_v104 : Ref sig .tc := ⟨.hbm, 206, rfl⟩
abbrev main_v105 : Ref sig .tc := ⟨.hbm, 207, rfl⟩
abbrev main_v106 : Ref sig .tc := ⟨.hbm, 208, rfl⟩
abbrev main_call7_c : Ref sig .tc := ⟨.hbm, 209, rfl⟩
abbrev main_call7_v0 : Ref sig .tc := ⟨.hbm, 210, rfl⟩
abbrev main_call7_v1 : Ref sig .tc := ⟨.hbm, 211, rfl⟩
abbrev main_call7_c_0 : Ref sig .tc := ⟨.hbm, 212, rfl⟩
abbrev main_call7_v2 : Ref sig .tc := ⟨.hbm, 213, rfl⟩
abbrev main_call7_v3 : Ref sig .tc := ⟨.hbm, 214, rfl⟩
abbrev main_call7_v4 : Ref sig .tc := ⟨.hbm, 215, rfl⟩
abbrev main_call7_v5 : Ref sig .tc := ⟨.hbm, 216, rfl⟩
abbrev main_call7_c_1 : Ref sig .tc := ⟨.hbm, 217, rfl⟩
abbrev main_call7_c_2 : Ref sig .tc := ⟨.hbm, 218, rfl⟩
abbrev main_call7_v6 : Ref sig .tc := ⟨.hbm, 219, rfl⟩
abbrev main_call7_v7 : Ref sig .tc := ⟨.hbm, 220, rfl⟩
abbrev main_call7_v8 : Ref sig .tc := ⟨.hbm, 221, rfl⟩
abbrev main_call7_v9 : Ref sig .tc := ⟨.hbm, 222, rfl⟩
abbrev main_call7_v10 : Ref sig .tc := ⟨.hbm, 223, rfl⟩
abbrev main_call7_v11 : Ref sig .tc := ⟨.hbm, 224, rfl⟩
abbrev main_call7_c_3 : Ref sig .tc := ⟨.hbm, 225, rfl⟩
abbrev main_call7_v12 : Ref sig .tc := ⟨.hbm, 226, rfl⟩
abbrev main_call7_v13 : Ref sig .tc := ⟨.hbm, 227, rfl⟩
abbrev main_call7_v14 : Ref sig .tc := ⟨.hbm, 228, rfl⟩
abbrev main_call7_cst : Ref sig .tc := ⟨.hbm, 229, rfl⟩
abbrev main_call7_v15 : Ref sig .tc := ⟨.hbm, 230, rfl⟩
abbrev main_v107 : Ref sig .tc := ⟨.hbm, 231, rfl⟩
abbrev main_v108 : Ref sig .tc := ⟨.hbm, 232, rfl⟩
abbrev main_v109 : Ref sig .tc := ⟨.hbm, 233, rfl⟩
abbrev main_v110 : Ref sig .tc := ⟨.hbm, 234, rfl⟩
abbrev main_v111 : Ref sig .tc := ⟨.hbm, 235, rfl⟩
abbrev main_v112 : Ref sig .tc := ⟨.hbm, 236, rfl⟩
abbrev main_v113 : Ref sig .tc := ⟨.hbm, 237, rfl⟩
abbrev main_v114 : Ref sig .tc := ⟨.hbm, 238, rfl⟩
abbrev main_v115 : Ref sig .tc := ⟨.hbm, 239, rfl⟩
abbrev main_v116 : Ref sig .tc := ⟨.hbm, 240, rfl⟩
abbrev main_cst_13 : Ref sig .tc := ⟨.hbm, 241, rfl⟩
abbrev main_v117 : Ref sig .tc := ⟨.hbm, 242, rfl⟩
abbrev main_v118 : Ref sig .tc := ⟨.hbm, 243, rfl⟩
abbrev main_v119 : Ref sig .tc := ⟨.hbm, 244, rfl⟩
abbrev main_v120 : Ref sig .tc := ⟨.hbm, 245, rfl⟩
abbrev main_v121 : Ref sig .tc := ⟨.hbm, 246, rfl⟩
abbrev main_v122 : Ref sig .tc := ⟨.hbm, 247, rfl⟩
abbrev main_v123 : Ref sig .tc := ⟨.hbm, 248, rfl⟩
abbrev main_call8_cst : Ref sig .tc := ⟨.hbm, 249, rfl⟩
abbrev main_call8_v0 : Ref sig .tc := ⟨.hbm, 250, rfl⟩
abbrev main_v124 : Ref sig .tc := ⟨.hbm, 251, rfl⟩
abbrev main_v125 : Ref sig .tc := ⟨.hbm, 252, rfl⟩
abbrev main_v126 : Ref sig .tc := ⟨.hbm, 253, rfl⟩
abbrev main_v127 : Ref sig .tc := ⟨.hbm, 254, rfl⟩
abbrev main_v128 : Ref sig .tc := ⟨.hbm, 255, rfl⟩
abbrev main_v129 : Ref sig .tc := ⟨.hbm, 256, rfl⟩
abbrev main_v130 : Ref sig .tc := ⟨.hbm, 257, rfl⟩
abbrev main_v131 : Ref sig .tc := ⟨.hbm, 258, rfl⟩
abbrev main_v132 : Ref sig .tc := ⟨.hbm, 259, rfl⟩
abbrev main_v133 : Ref sig .tc := ⟨.hbm, 260, rfl⟩
abbrev main_v134 : Ref sig .tc := ⟨.hbm, 261, rfl⟩
abbrev main_v135 : Ref sig .tc := ⟨.hbm, 262, rfl⟩
abbrev main_v136 : Ref sig .tc := ⟨.hbm, 263, rfl⟩
abbrev main_v137 : Ref sig .tc := ⟨.hbm, 264, rfl⟩
abbrev main_cst_14 : Ref sig .tc := ⟨.hbm, 265, rfl⟩
abbrev main_v138 : Ref sig .tc := ⟨.hbm, 266, rfl⟩
abbrev main_v139 : Ref sig .tc := ⟨.hbm, 267, rfl⟩
abbrev main_cst_15 : Ref sig .tc := ⟨.hbm, 268, rfl⟩
abbrev main_v140 : Ref sig .tc := ⟨.hbm, 269, rfl⟩
abbrev main_v141 : Ref sig .tc := ⟨.hbm, 270, rfl⟩
abbrev main_c_16 : Ref sig .tc := ⟨.hbm, 271, rfl⟩
abbrev main_call9_cst : Ref sig .tc := ⟨.hbm, 272, rfl⟩
abbrev main_call9_v0 : Ref sig .tc := ⟨.hbm, 273, rfl⟩
abbrev main_call9_v1 : Ref sig .tc := ⟨.hbm, 274, rfl⟩
abbrev main_call9_cst_0 : Ref sig .tc := ⟨.hbm, 275, rfl⟩
abbrev main_call9_v2 : Ref sig .tc := ⟨.hbm, 276, rfl⟩
abbrev main_call9_v3 : Ref sig .tc := ⟨.hbm, 277, rfl⟩
abbrev main_call9_v4 : Ref sig .tc := ⟨.hbm, 278, rfl⟩
abbrev main_call9_v5 : Ref sig .tc := ⟨.hbm, 279, rfl⟩
abbrev main_call9_v6 : Ref sig .tc := ⟨.hbm, 280, rfl⟩
abbrev main_call9_v7 : Ref sig .tc := ⟨.hbm, 281, rfl⟩
abbrev main_call9_cst_1 : Ref sig .tc := ⟨.hbm, 282, rfl⟩
abbrev main_call9_v8 : Ref sig .tc := ⟨.hbm, 283, rfl⟩
abbrev main_call9_cst_2 : Ref sig .tc := ⟨.hbm, 284, rfl⟩
abbrev main_call9_v9 : Ref sig .tc := ⟨.hbm, 285, rfl⟩
abbrev main_call9_v10 : Ref sig .tc := ⟨.hbm, 286, rfl⟩
abbrev main_call9_v11 : Ref sig .tc := ⟨.hbm, 287, rfl⟩
abbrev main_call9_v12 : Ref sig .tc := ⟨.hbm, 288, rfl⟩
abbrev main_call9_cst_3 : Ref sig .tc := ⟨.hbm, 289, rfl⟩
abbrev main_call9_v13 : Ref sig .tc := ⟨.hbm, 290, rfl⟩
abbrev main_call9_cst_4 : Ref sig .tc := ⟨.hbm, 291, rfl⟩
abbrev main_call9_call0_v0 : Ref sig .tc := ⟨.hbm, 292, rfl⟩
abbrev main_call9_call0_v1 : Ref sig .tc := ⟨.hbm, 293, rfl⟩
abbrev main_v142 : Ref sig .tc := ⟨.hbm, 294, rfl⟩
abbrev main_v143 : Ref sig .tc := ⟨.hbm, 295, rfl⟩
abbrev main_v144 : Ref sig .tc := ⟨.hbm, 296, rfl⟩
abbrev main_cst_17 : Ref sig .tc := ⟨.hbm, 297, rfl⟩
abbrev main_v145 : Ref sig .tc := ⟨.hbm, 298, rfl⟩
abbrev main_v146 : Ref sig .tc := ⟨.hbm, 299, rfl⟩
abbrev main_v147 : Ref sig .tc := ⟨.hbm, 300, rfl⟩
abbrev main_v148 : Ref sig .tc := ⟨.hbm, 301, rfl⟩
abbrev main_v149 : Ref sig .tc := ⟨.hbm, 302, rfl⟩
abbrev main_v150 : Ref sig .tc := ⟨.hbm, 303, rfl⟩
abbrev main_v151 : Ref sig .tc := ⟨.hbm, 304, rfl⟩
abbrev main_v152 : Ref sig .tc := ⟨.hbm, 305, rfl⟩
abbrev main_v153 : Ref sig .tc := ⟨.hbm, 306, rfl⟩
abbrev main_v154 : Ref sig .tc := ⟨.hbm, 307, rfl⟩
abbrev main_v155 : Ref sig .tc := ⟨.hbm, 308, rfl⟩
abbrev main_c_18 : Ref sig .tc := ⟨.hbm, 309, rfl⟩
abbrev main_call10_v0 : Ref sig .tc := ⟨.hbm, 310, rfl⟩
abbrev main_v156 : Ref sig .tc := ⟨.hbm, 311, rfl⟩
abbrev main_v157 : Ref sig .tc := ⟨.hbm, 312, rfl⟩
abbrev main_v158 : Ref sig .tc := ⟨.hbm, 313, rfl⟩
abbrev main_v159 : Ref sig .tc := ⟨.hbm, 314, rfl⟩
abbrev main_v160 : Ref sig .tc := ⟨.hbm, 315, rfl⟩
abbrev main_v161 : Ref sig .tc := ⟨.hbm, 316, rfl⟩
abbrev main_v162 : Ref sig .tc := ⟨.hbm, 317, rfl⟩
abbrev main_v163 : Ref sig .tc := ⟨.hbm, 318, rfl⟩
abbrev main_v164 : Ref sig .tc := ⟨.hbm, 319, rfl⟩
abbrev main_v165 : Ref sig .tc := ⟨.hbm, 320, rfl⟩
abbrev main_v166 : Ref sig .tc := ⟨.hbm, 321, rfl⟩
abbrev main_v167 : Ref sig .tc := ⟨.hbm, 322, rfl⟩
abbrev main_v168 : Ref sig .tc := ⟨.hbm, 323, rfl⟩
abbrev main_v169 : Ref sig .tc := ⟨.hbm, 324, rfl⟩
abbrev main_v170 : Ref sig .tc := ⟨.hbm, 325, rfl⟩
abbrev main_v171 : Ref sig .tc := ⟨.hbm, 326, rfl⟩
abbrev main_v172 : Ref sig .tc := ⟨.hbm, 327, rfl⟩
abbrev main_v173 : Ref sig .tc := ⟨.hbm, 328, rfl⟩
abbrev main_v174 : Ref sig .tc := ⟨.hbm, 329, rfl⟩
abbrev main_v175 : Ref sig .tc := ⟨.hbm, 330, rfl⟩
abbrev main_call11_cst : Ref sig .tc := ⟨.hbm, 331, rfl⟩
abbrev main_call11_v0 : Ref sig .tc := ⟨.hbm, 332, rfl⟩
abbrev main_v176 : Ref sig .tc := ⟨.hbm, 333, rfl⟩
abbrev main_v177 : Ref sig .tc := ⟨.hbm, 334, rfl⟩
abbrev main_v178 : Ref sig .tc := ⟨.hbm, 335, rfl⟩
abbrev main_v179 : Ref sig .tc := ⟨.hbm, 336, rfl⟩
abbrev main_v180 : Ref sig .tc := ⟨.hbm, 337, rfl⟩
abbrev main_v181 : Ref sig .tc := ⟨.hbm, 338, rfl⟩
abbrev main_cst_19 : Ref sig .tc := ⟨.hbm, 339, rfl⟩
abbrev main_v182 : Ref sig .tc := ⟨.hbm, 340, rfl⟩
abbrev main_v183 : Ref sig .tc := ⟨.hbm, 341, rfl⟩
abbrev main_cst_20 : Ref sig .tc := ⟨.hbm, 342, rfl⟩
abbrev main_v184 : Ref sig .tc := ⟨.hbm, 343, rfl⟩
abbrev main_v185 : Ref sig .tc := ⟨.hbm, 344, rfl⟩
abbrev main_c_21 : Ref sig .tc := ⟨.hbm, 345, rfl⟩
abbrev main_call12_cst : Ref sig .tc := ⟨.hbm, 346, rfl⟩
abbrev main_call12_v0 : Ref sig .tc := ⟨.hbm, 347, rfl⟩
abbrev main_call12_v1 : Ref sig .tc := ⟨.hbm, 348, rfl⟩
abbrev main_call12_cst_0 : Ref sig .tc := ⟨.hbm, 349, rfl⟩
abbrev main_call12_v2 : Ref sig .tc := ⟨.hbm, 350, rfl⟩
abbrev main_call12_v3 : Ref sig .tc := ⟨.hbm, 351, rfl⟩
abbrev main_call12_v4 : Ref sig .tc := ⟨.hbm, 352, rfl⟩
abbrev main_call12_v5 : Ref sig .tc := ⟨.hbm, 353, rfl⟩
abbrev main_call12_v6 : Ref sig .tc := ⟨.hbm, 354, rfl⟩
abbrev main_call12_v7 : Ref sig .tc := ⟨.hbm, 355, rfl⟩
abbrev main_call12_cst_1 : Ref sig .tc := ⟨.hbm, 356, rfl⟩
abbrev main_call12_v8 : Ref sig .tc := ⟨.hbm, 357, rfl⟩
abbrev main_call12_cst_2 : Ref sig .tc := ⟨.hbm, 358, rfl⟩
abbrev main_call12_v9 : Ref sig .tc := ⟨.hbm, 359, rfl⟩
abbrev main_call12_v10 : Ref sig .tc := ⟨.hbm, 360, rfl⟩
abbrev main_call12_v11 : Ref sig .tc := ⟨.hbm, 361, rfl⟩
abbrev main_call12_v12 : Ref sig .tc := ⟨.hbm, 362, rfl⟩
abbrev main_call12_cst_3 : Ref sig .tc := ⟨.hbm, 363, rfl⟩
abbrev main_call12_v13 : Ref sig .tc := ⟨.hbm, 364, rfl⟩
abbrev main_call12_cst_4 : Ref sig .tc := ⟨.hbm, 365, rfl⟩
abbrev main_call12_call0_v0 : Ref sig .tc := ⟨.hbm, 366, rfl⟩
abbrev main_call12_call0_v1 : Ref sig .tc := ⟨.hbm, 367, rfl⟩
abbrev main_v186 : Ref sig .tc := ⟨.hbm, 368, rfl⟩
abbrev main_v187 : Ref sig .tc := ⟨.hbm, 369, rfl⟩
abbrev main_v188 : Ref sig .tc := ⟨.hbm, 370, rfl⟩
abbrev main_cst_22 : Ref sig .tc := ⟨.hbm, 371, rfl⟩
abbrev main_v189 : Ref sig .tc := ⟨.hbm, 372, rfl⟩
abbrev main_v190 : Ref sig .tc := ⟨.hbm, 373, rfl⟩
abbrev main_v191 : Ref sig .tc := ⟨.hbm, 374, rfl⟩
abbrev main_v192 : Ref sig .tc := ⟨.hbm, 375, rfl⟩
abbrev main_v193 : Ref sig .tc := ⟨.hbm, 376, rfl⟩
abbrev main_v194 : Ref sig .tc := ⟨.hbm, 377, rfl⟩
abbrev main_v195 : Ref sig .tc := ⟨.hbm, 378, rfl⟩
abbrev main_v196 : Ref sig .tc := ⟨.hbm, 379, rfl⟩
abbrev main_v197 : Ref sig .tc := ⟨.hbm, 380, rfl⟩
abbrev main_v198 : Ref sig .tc := ⟨.hbm, 381, rfl⟩
abbrev main_v199 : Ref sig .tc := ⟨.hbm, 382, rfl⟩
abbrev main_call13_c : Ref sig .tc := ⟨.hbm, 383, rfl⟩
abbrev main_call13_v0 : Ref sig .tc := ⟨.hbm, 384, rfl⟩
abbrev main_call13_v1 : Ref sig .tc := ⟨.hbm, 385, rfl⟩
abbrev main_call13_c_0 : Ref sig .tc := ⟨.hbm, 386, rfl⟩
abbrev main_call13_v2 : Ref sig .tc := ⟨.hbm, 387, rfl⟩
abbrev main_call13_v3 : Ref sig .tc := ⟨.hbm, 388, rfl⟩
abbrev main_call13_v4 : Ref sig .tc := ⟨.hbm, 389, rfl⟩
abbrev main_call13_v5 : Ref sig .tc := ⟨.hbm, 390, rfl⟩
abbrev main_call13_c_1 : Ref sig .tc := ⟨.hbm, 391, rfl⟩
abbrev main_call13_c_2 : Ref sig .tc := ⟨.hbm, 392, rfl⟩
abbrev main_call13_v6 : Ref sig .tc := ⟨.hbm, 393, rfl⟩
abbrev main_call13_v7 : Ref sig .tc := ⟨.hbm, 394, rfl⟩
abbrev main_call13_v8 : Ref sig .tc := ⟨.hbm, 395, rfl⟩
abbrev main_call13_v9 : Ref sig .tc := ⟨.hbm, 396, rfl⟩
abbrev main_call13_v10 : Ref sig .tc := ⟨.hbm, 397, rfl⟩
abbrev main_call13_v11 : Ref sig .tc := ⟨.hbm, 398, rfl⟩
abbrev main_call13_c_3 : Ref sig .tc := ⟨.hbm, 399, rfl⟩
abbrev main_call13_v12 : Ref sig .tc := ⟨.hbm, 400, rfl⟩
abbrev main_call13_v13 : Ref sig .tc := ⟨.hbm, 401, rfl⟩
abbrev main_call13_v14 : Ref sig .tc := ⟨.hbm, 402, rfl⟩
abbrev main_call13_cst : Ref sig .tc := ⟨.hbm, 403, rfl⟩
abbrev main_call13_v15 : Ref sig .tc := ⟨.hbm, 404, rfl⟩
abbrev main_v200 : Ref sig .tc := ⟨.hbm, 405, rfl⟩
abbrev main_v201 : Ref sig .tc := ⟨.hbm, 406, rfl⟩
abbrev main_v202 : Ref sig .tc := ⟨.hbm, 407, rfl⟩
abbrev main_v203 : Ref sig .tc := ⟨.hbm, 408, rfl⟩
abbrev main_v204 : Ref sig .tc := ⟨.hbm, 409, rfl⟩
abbrev main_v205 : Ref sig .tc := ⟨.hbm, 410, rfl⟩
abbrev main_v206 : Ref sig .tc := ⟨.hbm, 411, rfl⟩
abbrev main_v207 : Ref sig .tc := ⟨.hbm, 412, rfl⟩
abbrev main_v208 : Ref sig .tc := ⟨.hbm, 413, rfl⟩
abbrev main_v209 : Ref sig .tc := ⟨.hbm, 414, rfl⟩
abbrev main_cst_23 : Ref sig .tc := ⟨.hbm, 415, rfl⟩
abbrev main_v210 : Ref sig .tc := ⟨.hbm, 416, rfl⟩
abbrev main_v211 : Ref sig .tc := ⟨.hbm, 417, rfl⟩
abbrev main_v212 : Ref sig .tc := ⟨.hbm, 418, rfl⟩
abbrev main_v213 : Ref sig .tc := ⟨.hbm, 419, rfl⟩
abbrev main_v214 : Ref sig .tc := ⟨.hbm, 420, rfl⟩
abbrev main_v215 : Ref sig .tc := ⟨.hbm, 421, rfl⟩
abbrev main_v216 : Ref sig .tc := ⟨.hbm, 422, rfl⟩
abbrev main_call14_cst : Ref sig .tc := ⟨.hbm, 423, rfl⟩
abbrev main_call14_v0 : Ref sig .tc := ⟨.hbm, 424, rfl⟩
abbrev main_v217 : Ref sig .tc := ⟨.hbm, 425, rfl⟩
abbrev main_v218 : Ref sig .tc := ⟨.hbm, 426, rfl⟩
abbrev main_v219 : Ref sig .tc := ⟨.hbm, 427, rfl⟩
abbrev main_v220 : Ref sig .tc := ⟨.hbm, 428, rfl⟩
abbrev main_v221 : Ref sig .tc := ⟨.hbm, 429, rfl⟩
abbrev main_v222 : Ref sig .tc := ⟨.hbm, 430, rfl⟩
abbrev main_v223 : Ref sig .tc := ⟨.hbm, 431, rfl⟩
abbrev main_v224 : Ref sig .tc := ⟨.hbm, 432, rfl⟩
abbrev main_v225 : Ref sig .tc := ⟨.hbm, 433, rfl⟩
abbrev main_v226 : Ref sig .tc := ⟨.hbm, 434, rfl⟩
abbrev main_v227 : Ref sig .tc := ⟨.hbm, 435, rfl⟩
abbrev main_v228 : Ref sig .tc := ⟨.hbm, 436, rfl⟩
abbrev main_v229 : Ref sig .tc := ⟨.hbm, 437, rfl⟩
abbrev main_v230 : Ref sig .tc := ⟨.hbm, 438, rfl⟩
abbrev main_cst_24 : Ref sig .tc := ⟨.hbm, 439, rfl⟩
abbrev main_v231 : Ref sig .tc := ⟨.hbm, 440, rfl⟩
abbrev main_v232 : Ref sig .tc := ⟨.hbm, 441, rfl⟩
abbrev main_cst_25 : Ref sig .tc := ⟨.hbm, 442, rfl⟩
abbrev main_v233 : Ref sig .tc := ⟨.hbm, 443, rfl⟩
abbrev main_v234 : Ref sig .tc := ⟨.hbm, 444, rfl⟩
abbrev main_c_26 : Ref sig .tc := ⟨.hbm, 445, rfl⟩
abbrev main_call15_cst : Ref sig .tc := ⟨.hbm, 446, rfl⟩
abbrev main_call15_v0 : Ref sig .tc := ⟨.hbm, 447, rfl⟩
abbrev main_call15_v1 : Ref sig .tc := ⟨.hbm, 448, rfl⟩
abbrev main_call15_cst_0 : Ref sig .tc := ⟨.hbm, 449, rfl⟩
abbrev main_call15_v2 : Ref sig .tc := ⟨.hbm, 450, rfl⟩
abbrev main_call15_v3 : Ref sig .tc := ⟨.hbm, 451, rfl⟩
abbrev main_call15_v4 : Ref sig .tc := ⟨.hbm, 452, rfl⟩
abbrev main_call15_v5 : Ref sig .tc := ⟨.hbm, 453, rfl⟩
abbrev main_call15_v6 : Ref sig .tc := ⟨.hbm, 454, rfl⟩
abbrev main_call15_v7 : Ref sig .tc := ⟨.hbm, 455, rfl⟩
abbrev main_call15_cst_1 : Ref sig .tc := ⟨.hbm, 456, rfl⟩
abbrev main_call15_v8 : Ref sig .tc := ⟨.hbm, 457, rfl⟩
abbrev main_call15_cst_2 : Ref sig .tc := ⟨.hbm, 458, rfl⟩
abbrev main_call15_v9 : Ref sig .tc := ⟨.hbm, 459, rfl⟩
abbrev main_call15_v10 : Ref sig .tc := ⟨.hbm, 460, rfl⟩
abbrev main_call15_v11 : Ref sig .tc := ⟨.hbm, 461, rfl⟩
abbrev main_call15_v12 : Ref sig .tc := ⟨.hbm, 462, rfl⟩
abbrev main_call15_cst_3 : Ref sig .tc := ⟨.hbm, 463, rfl⟩
abbrev main_call15_v13 : Ref sig .tc := ⟨.hbm, 464, rfl⟩
abbrev main_call15_cst_4 : Ref sig .tc := ⟨.hbm, 465, rfl⟩
abbrev main_call15_call0_v0 : Ref sig .tc := ⟨.hbm, 466, rfl⟩
abbrev main_call15_call0_v1 : Ref sig .tc := ⟨.hbm, 467, rfl⟩
abbrev main_v235 : Ref sig .tc := ⟨.hbm, 468, rfl⟩
abbrev main_v236 : Ref sig .tc := ⟨.hbm, 469, rfl⟩
abbrev main_v237 : Ref sig .tc := ⟨.hbm, 470, rfl⟩
abbrev main_cst_27 : Ref sig .tc := ⟨.hbm, 471, rfl⟩
abbrev main_v238 : Ref sig .tc := ⟨.hbm, 472, rfl⟩
abbrev main_v239 : Ref sig .tc := ⟨.hbm, 473, rfl⟩
abbrev main_v240 : Ref sig .tc := ⟨.hbm, 474, rfl⟩
abbrev main_v241 : Ref sig .tc := ⟨.hbm, 475, rfl⟩
abbrev main_v242 : Ref sig .tc := ⟨.hbm, 476, rfl⟩
abbrev main_v243 : Ref sig .tc := ⟨.hbm, 477, rfl⟩
abbrev main_v244 : Ref sig .tc := ⟨.hbm, 478, rfl⟩
abbrev main_v245 : Ref sig .tc := ⟨.hbm, 479, rfl⟩
abbrev main_v246 : Ref sig .tc := ⟨.hbm, 480, rfl⟩
abbrev main_v247 : Ref sig .tc := ⟨.hbm, 481, rfl⟩
abbrev main_v248 : Ref sig .tc := ⟨.hbm, 482, rfl⟩
abbrev main_c_28 : Ref sig .tc := ⟨.hbm, 483, rfl⟩
abbrev main_call16_v0 : Ref sig .tc := ⟨.hbm, 484, rfl⟩
abbrev main_v249 : Ref sig .tc := ⟨.hbm, 485, rfl⟩
abbrev main_v250 : Ref sig .tc := ⟨.hbm, 486, rfl⟩
abbrev main_v251 : Ref sig .tc := ⟨.hbm, 487, rfl⟩
abbrev main_v252 : Ref sig .tc := ⟨.hbm, 488, rfl⟩
abbrev main_v253 : Ref sig .tc := ⟨.hbm, 489, rfl⟩
abbrev main_v254 : Ref sig .tc := ⟨.hbm, 490, rfl⟩
abbrev main_v255 : Ref sig .tc := ⟨.hbm, 491, rfl⟩
abbrev main_v256 : Ref sig .tc := ⟨.hbm, 492, rfl⟩
abbrev main_v257 : Ref sig .tc := ⟨.hbm, 493, rfl⟩
abbrev main_v258 : Ref sig .tc := ⟨.hbm, 494, rfl⟩
abbrev main_v259 : Ref sig .tc := ⟨.hbm, 495, rfl⟩
abbrev main_v260 : Ref sig .tc := ⟨.hbm, 496, rfl⟩
abbrev main_v261 : Ref sig .tc := ⟨.hbm, 497, rfl⟩
abbrev main_v262 : Ref sig .tc := ⟨.hbm, 498, rfl⟩
abbrev main_v263 : Ref sig .tc := ⟨.hbm, 499, rfl⟩
abbrev main_v264 : Ref sig .tc := ⟨.hbm, 500, rfl⟩
abbrev main_v265 : Ref sig .tc := ⟨.hbm, 501, rfl⟩
abbrev main_v266 : Ref sig .tc := ⟨.hbm, 502, rfl⟩
abbrev main_v267 : Ref sig .tc := ⟨.hbm, 503, rfl⟩
abbrev main_v268 : Ref sig .tc := ⟨.hbm, 504, rfl⟩
abbrev main_call17_cst : Ref sig .tc := ⟨.hbm, 505, rfl⟩
abbrev main_call17_v0 : Ref sig .tc := ⟨.hbm, 506, rfl⟩
abbrev main_v269 : Ref sig .tc := ⟨.hbm, 507, rfl⟩
abbrev main_v270 : Ref sig .tc := ⟨.hbm, 508, rfl⟩
abbrev main_v271 : Ref sig .tc := ⟨.hbm, 509, rfl⟩
abbrev main_v272 : Ref sig .tc := ⟨.hbm, 510, rfl⟩
abbrev main_v273 : Ref sig .tc := ⟨.hbm, 511, rfl⟩
abbrev main_v274 : Ref sig .tc := ⟨.hbm, 512, rfl⟩
abbrev main_cst_29 : Ref sig .tc := ⟨.hbm, 513, rfl⟩
abbrev main_v275 : Ref sig .tc := ⟨.hbm, 514, rfl⟩
abbrev main_v276 : Ref sig .tc := ⟨.hbm, 515, rfl⟩
abbrev main_cst_30 : Ref sig .tc := ⟨.hbm, 516, rfl⟩
abbrev main_v277 : Ref sig .tc := ⟨.hbm, 517, rfl⟩
abbrev main_v278 : Ref sig .tc := ⟨.hbm, 518, rfl⟩
abbrev main_c_31 : Ref sig .tc := ⟨.hbm, 519, rfl⟩
abbrev main_call18_cst : Ref sig .tc := ⟨.hbm, 520, rfl⟩
abbrev main_call18_v0 : Ref sig .tc := ⟨.hbm, 521, rfl⟩
abbrev main_call18_v1 : Ref sig .tc := ⟨.hbm, 522, rfl⟩
abbrev main_call18_cst_0 : Ref sig .tc := ⟨.hbm, 523, rfl⟩
abbrev main_call18_v2 : Ref sig .tc := ⟨.hbm, 524, rfl⟩
abbrev main_call18_v3 : Ref sig .tc := ⟨.hbm, 525, rfl⟩
abbrev main_call18_v4 : Ref sig .tc := ⟨.hbm, 526, rfl⟩
abbrev main_call18_v5 : Ref sig .tc := ⟨.hbm, 527, rfl⟩
abbrev main_call18_v6 : Ref sig .tc := ⟨.hbm, 528, rfl⟩
abbrev main_call18_v7 : Ref sig .tc := ⟨.hbm, 529, rfl⟩
abbrev main_call18_cst_1 : Ref sig .tc := ⟨.hbm, 530, rfl⟩
abbrev main_call18_v8 : Ref sig .tc := ⟨.hbm, 531, rfl⟩
abbrev main_call18_cst_2 : Ref sig .tc := ⟨.hbm, 532, rfl⟩
abbrev main_call18_v9 : Ref sig .tc := ⟨.hbm, 533, rfl⟩
abbrev main_call18_v10 : Ref sig .tc := ⟨.hbm, 534, rfl⟩
abbrev main_call18_v11 : Ref sig .tc := ⟨.hbm, 535, rfl⟩
abbrev main_call18_v12 : Ref sig .tc := ⟨.hbm, 536, rfl⟩
abbrev main_call18_cst_3 : Ref sig .tc := ⟨.hbm, 537, rfl⟩
abbrev main_call18_v13 : Ref sig .tc := ⟨.hbm, 538, rfl⟩
abbrev main_call18_cst_4 : Ref sig .tc := ⟨.hbm, 539, rfl⟩
abbrev main_call18_call0_v0 : Ref sig .tc := ⟨.hbm, 540, rfl⟩
abbrev main_call18_call0_v1 : Ref sig .tc := ⟨.hbm, 541, rfl⟩
abbrev main_v279 : Ref sig .tc := ⟨.hbm, 542, rfl⟩
abbrev main_v280 : Ref sig .tc := ⟨.hbm, 543, rfl⟩
abbrev main_v281 : Ref sig .tc := ⟨.hbm, 544, rfl⟩
abbrev main_cst_32 : Ref sig .tc := ⟨.hbm, 545, rfl⟩
abbrev main_v282 : Ref sig .tc := ⟨.hbm, 546, rfl⟩
abbrev main_v283 : Ref sig .tc := ⟨.hbm, 547, rfl⟩
abbrev main_v284 : Ref sig .tc := ⟨.hbm, 548, rfl⟩
abbrev main_v285 : Ref sig .tc := ⟨.hbm, 549, rfl⟩
abbrev main_v286 : Ref sig .tc := ⟨.hbm, 550, rfl⟩
abbrev main_v287 : Ref sig .tc := ⟨.hbm, 551, rfl⟩
abbrev main_v288 : Ref sig .tc := ⟨.hbm, 552, rfl⟩
abbrev main_v289 : Ref sig .tc := ⟨.hbm, 553, rfl⟩
abbrev main_v290 : Ref sig .tc := ⟨.hbm, 554, rfl⟩
abbrev main_v291 : Ref sig .tc := ⟨.hbm, 555, rfl⟩
abbrev main_v292 : Ref sig .tc := ⟨.hbm, 556, rfl⟩
abbrev main_v293 : Ref sig .tc := ⟨.hbm, 557, rfl⟩
abbrev main_v294 : Ref sig .tc := ⟨.hbm, 558, rfl⟩
abbrev main_v295 : Ref sig .tc := ⟨.hbm, 559, rfl⟩
abbrev main_v296 : Ref sig .tc := ⟨.hbm, 560, rfl⟩

abbrev nD : Nat := 1
abbrev τ : Topo := Topo.v7x

variable {F : FTy → Type} [FloatOps F]
-- ==== Proof.Model.lean ====
/- The decoder over the real numbers: what both programs compute once every number they meet is finite. One batch entry is
   a function of time, joint and feature. A layer normalisation is `ln`, a message-passing step along the chain of joints
   is `graph`, a temporal convolution with its residual is `temporal`, and `Data` carries the arguments of three layers of each. -/
module

public import Idealize.ShloMosaic.PureOps.Ideal

@[expose] public section

noncomputable section

namespace Cert.Decoder

/-- The number that the layer normalisation adds to the variance: the binary32 number nearest to 1/100000. -/
def eps : ℝ := 10995116 * (2 : ℝ) ^ (-40 : ℤ)

/-- The added number is positive. -/
theorem eps_pos : 0 < eps := by unfold eps; positivity

/-- The mean of a feature vector. -/
def mean (x : Fin 256 → ℝ) : ℝ := (∑ c, x c) / 256

/-- The variance of a feature vector: the mean of the squared distances from the mean. -/
def var (x : Fin 256 → ℝ) : ℝ := (∑ c, (x c - mean x) * (x c - mean x)) / 256

/-- A variance is not negative. -/
theorem var_nonneg (x : Fin 256 → ℝ) : 0 ≤ var x := by
  unfold var
  exact div_nonneg (Finset.sum_nonneg fun c _ => mul_self_nonneg _) (by norm_num)

/-- The variance is the mean of the squares less the square of the mean. -/
theorem var_eq (x : Fin 256 → ℝ) : (∑ c, x c * x c) / 256 - mean x * mean x = var x := by
  have h : ∀ c, (x c - mean x) * (x c - mean x) = x c * x c - 2 * mean x * x c + mean x * mean x := fun c => by ring
  have hs : (∑ c, x c) = 256 * mean x := by unfold mean; ring
  unfold var
  simp only [h, Finset.sum_add_distrib, Finset.sum_sub_distrib, ← Finset.mul_sum, hs, Finset.sum_const, Finset.card_univ,
    Fintype.card_fin, nsmul_eq_mul]
  push_cast
  ring

/-- A feature vector normalised: its distance from the mean over the square root of the variance, made positive. -/
def ln (x : Fin 256 → ℝ) : Fin 256 → ℝ := fun c => (x c - mean x) / Real.sqrt (var x + eps)

/-- A feature vector times a matrix. -/
def dot {n : ℕ} (x : Fin 256 → ℝ) (w : Fin 256 → Fin n → ℝ) : Fin n → ℝ := fun c => ∑ q, x q * w q c

/-- The sum over a joint's neighbours on the chain. -/
def neighbours (x : Fin 32 → Fin 256 → ℝ) (j : Fin 32) (c : Fin 256) : ℝ :=
  (if h : 0 < j.val then x ⟨j.val - 1, by omega⟩ c else 0) + (if h : j.val + 1 < 32 then x ⟨j.val + 1, h⟩ c else 0)

/-- One message-passing step at one time: the neighbours' mean (`d` holds the inverse degrees) through the two matrices,
    with a rectifier between them, added to the joint's own features and normalised. -/
def graph (d : Fin 32 → ℝ) (wm wo : Fin 256 → Fin 256 → ℝ) (x : Fin 32 → Fin 256 → ℝ) : Fin 32 → Fin 256 → ℝ := fun j =>
  ln fun c => x j c + dot (fun q => max (dot (fun p => neighbours x j p * d j) wm q) 0) wo c

/-- One batch entry: time, joint, feature. -/
abbrev State : Type := Fin 240 → Fin 32 → Fin 256 → ℝ

/-- A state times a matrix. -/
def lin (w : Fin 256 → Fin 256 → ℝ) (X : State) : State := fun t j => dot (X t j) w

/-- The three taps of the convolution added at each time: the first product one step earlier, the third one step later,
    zero beyond the ends. -/
def taps (Y0 Y1 Y2 : State) : State := fun t j c =>
  Y1 t j c + (if h : 0 < t.val then Y0 ⟨t.val - 1, by omega⟩ j c else 0) +
    (if h : t.val + 1 < 240 then Y2 ⟨t.val + 1, h⟩ j c else 0)

/-- The residual around the rectified convolution, normalised. -/
def residual (X Y : State) : State := fun t j => ln fun c => X t j c + max (Y t j c) 0

/-- The temporal convolution with its residual and its normalisation. -/
def temporal (wt : Fin 3 → Fin 256 → Fin 256 → ℝ) (X : State) : State :=
  residual X (taps (lin (wt 0) X) (lin (wt 1) X) (lin (wt 2) X))

/-- The real-valued arguments of one batch entry: the features, the inverse degrees and the weights of the three layers. -/
structure Data where
  z : State
  d : Fin 32 → ℝ
  wm : Fin 3 → Fin 256 → Fin 256 → ℝ
  wo : Fin 3 → Fin 256 → Fin 256 → ℝ
  wt : Fin 3 → Fin 3 → Fin 256 → Fin 256 → ℝ

/-- The state after a layer's message-passing step. -/
def Data.step (p : Data) (i : Fin 3) (X : State) : State := fun t => graph p.d (p.wm i) (p.wo i) (X t)

/-- The state after the first layer's message-passing step. -/
def Data.g0 (p : Data) : State := p.step 0 p.z
/-- The state after the first layer. -/
def Data.h1 (p : Data) : State := temporal (p.wt 0) p.g0
/-- The state after the second layer's message-passing step. -/
def Data.g1 (p : Data) : State := p.step 1 p.h1
/-- The state after the second layer. -/
def Data.h2 (p : Data) : State := temporal (p.wt 1) p.g1
/-- The state after the third layer's message-passing step. -/
def Data.g2 (p : Data) : State := p.step 2 p.h2
/-- The state after the third layer. -/
def Data.h3 (p : Data) : State := temporal (p.wt 2) p.g2

end Cert.Decoder

end
-- ==== Proof.Reals.lean ====
/- The exact arithmetic of the programs at real numbers: each operation at finite operands is the real operation, and the two
   forms of the layer normalisation (the kernel's, by the mean of the squares and a reciprocal square root; the reference's,
   by the mean squared distance and a quotient) are both `Cert.Decoder.ln`. -/
module

public import proofs.«01_k».proof.Proof.Model
public import Idealize.ShloMosaic.Lib.Pointwise

@[expose] public section

noncomputable section

namespace Cert.Decoder

open Idealize.ShloMosaic

/-- A sum of real numbers taken in the extended reals is the real sum. -/
theorem coe_sum {ι : Type} [Fintype ι] (f : ι → ℝ) : (∑ i, (f i : EReal)) = ((∑ i, f i : ℝ) : EReal) :=
  (map_sum (⟨⟨Real.toEReal, EReal.coe_zero⟩, EReal.coe_add⟩ : ℝ →+ EReal) f Finset.univ).symm

/-- A product of a feature vector and a matrix taken in the extended reals is the real product. -/
theorem coe_dot {n : ℕ} (x : Fin 256 → ℝ) (w : Fin 256 → Fin n → ℝ) (c : Fin n) :
    (∑ q, (x q : EReal) * (w q c : EReal)) = ((dot x w c : ℝ) : EReal) := by
  simp only [← EReal.coe_mul, coe_sum]; rfl

/-- The greater of a real number and zero. -/
theorem coe_relu (x : ℝ) : max (x : EReal) 0 = ((max x 0 : ℝ) : EReal) := (EReal.coe_strictMono.monotone.map_max (a := x) (b := 0)).symm

/-- The word `0x43800000` is 256. -/
theorem ofBits_256 : Ideal.ofBits .f32 0x43800000#32 = ((256 : ℝ) : EReal) := by
  simp [Ideal.ofBits, Ideal.ieee, -EReal.coe_mul]; norm_num

/-- The word `0x3727C5AC` is `eps`. -/
theorem ofBits_eps : Ideal.ofBits .f32 0x3727C5AC#32 = ((eps : ℝ) : EReal) := by
  simp [Ideal.ofBits, Ideal.ieee, eps]

/-- A real number over 256. -/
theorem div_256 (x : ℝ) : Ideal.div (x : EReal) ((256 : ℝ) : EReal) = ((x / 256 : ℝ) : EReal) := by
  rw [Ideal.div_coe (by norm_num), ← EReal.coe_mul]; congr 1; ring

/-- A real number over a real number that is not zero. -/
theorem div_coe' {y : ℝ} (h : y ≠ 0) (x : ℝ) : Ideal.div (x : EReal) (y : EReal) = ((x / y : ℝ) : EReal) := by
  rw [Ideal.div_coe h, ← EReal.coe_mul]; congr 1; ring

/-- The kernel's layer normalisation of a real feature vector is `ln`. -/
theorem ln_of_squares (x : Fin 256 → ℝ) (c : Fin 256) :
    ((x c : EReal) - Ideal.div (∑ q, (x q : EReal)) (Ideal.ofBits .f32 0x43800000#32)) *
      Ideal.rsqrt (Ideal.div (∑ q, (x q : EReal) * (x q : EReal)) (Ideal.ofBits .f32 0x43800000#32)
        - Ideal.div (∑ q, (x q : EReal)) (Ideal.ofBits .f32 0x43800000#32)
          * Ideal.div (∑ q, (x q : EReal)) (Ideal.ofBits .f32 0x43800000#32) + Ideal.ofBits .f32 0x3727C5AC#32)
      = ((ln x c : ℝ) : EReal) := by
  have hv : 0 < var x + eps := add_pos_of_nonneg_of_pos (var_nonneg x) eps_pos
  have hm : (∑ q, x q) / 256 = mean x := rfl
  simp only [ofBits_256, ofBits_eps, ← EReal.coe_mul, coe_sum, div_256, ← EReal.coe_sub, ← EReal.coe_add, hm, var_eq,
    Ideal.rsqrt_coe, if_neg (not_lt.mpr hv.le), if_neg hv.ne']
  rw [← div_eq_mul_inv]; rfl

/-- The reference's layer normalisation of a real feature vector is `ln`. -/
theorem ln_of_distances (x : Fin 256 → ℝ) (c : Fin 256) :
    Ideal.div ((x c : EReal) - ((mean x : ℝ) : EReal)) (Ideal.sqrt (((var x : ℝ) : EReal) + Ideal.ofBits .f32 0x3727C5AC#32))
      = ((ln x c : ℝ) : EReal) := by
  have hv : 0 < var x + eps := add_pos_of_nonneg_of_pos (var_nonneg x) eps_pos
  rw [ofBits_eps, ← EReal.coe_add, ← EReal.coe_sub, Ideal.sqrt_coe, if_neg (not_lt.mpr hv.le),
    div_coe' (Real.sqrt_pos.mpr hv).ne']
  rfl

end Cert.Decoder

end
-- ==== Proof.KernelSteps.lean ====
/- One chunk of 20 times through the kernel's steps: the message-passing step, a product of the temporal convolution, the
   convolution's sum with its residual and normalisation, and the output projection, each as a function of the arrays it
   reads; and its value, entry by entry, at arrays of real numbers: the step of `Cert.Decoder` of the same name. -/
module

public import proofs.«01_k».proof.Proof.Reals
public import proofs.«01_k».proof.Proof.Gen.KernelIdeal.Skeleton

@[expose] public section

set_option maxRecDepth 16384

noncomputable section

namespace Cert.KernelIdeal.Steps

open Idealize.ShloMosaic Cert.KernelIdeal Cert.KernelIdeal.Gen Cert.Decoder

section Terms

variable {F : FTy → Type} [FloatOps F]

/-- The product of a chunk's 640 rows with a square matrix. -/
def mm (x : FVec F S640x256 .f32) (w : FVec F S256x256 .f32) : FVec F S640x256 .f32 :=
  matmul dot_S640x256_S256x256_S640x256_1_0_0_1_n_n none x w (constant S640x256 .f32 0x00000000#32)

/-- The mean of each of 640 rows, as a column. -/
def rowMean (x : FVec F S640x256 .f32) : FVec F S640x1 .f32 :=
  divf (shapeCast S640x1 (multiReduction .add [1] S640 x 0x00000000#32 reduces_S640x256_S640 (.inl rfl) rfl) shapeCasts_S640_S640x1)
    (broadcast S640x1 (Scalar.ofBits .f32 0x43800000#32))

/-- The layer normalisation of 640 rows. -/
def rowNorm (x : FVec F S640x256 .f32) : FVec F S640x256 .f32 :=
  mulf (subf x (broadcastTo S640x256 (rowMean x) broadcasts_S640x1_S640x256))
    (broadcastTo S640x256
      (rsqrt (addf (subf (rowMean (mulf x x)) (mulf (rowMean x) (rowMean x))) (broadcast S640x1 (Scalar.ofBits .f32 0x3727C5AC#32))))
      broadcasts_S640x1_S640x256)

/-- The mean over the features of a chunk. -/
def boxMean (x : FVec F S20x32x256 .f32) : FVec F S20x32x1 .f32 :=
  divf (shapeCast S20x32x1 (multiReduction .add [2] S20x32 x 0x00000000#32 reduces_S20x32x256_S20x32 (.inl rfl) rfl)
    shapeCasts_S20x32_S20x32x1) (broadcast S20x32x1 (Scalar.ofBits .f32 0x43800000#32))

/-- The layer normalisation of a chunk. -/
def boxNorm (x : FVec F S20x32x256 .f32) : FVec F S20x32x256 .f32 :=
  mulf (subf x (broadcastTo S20x32x256 (boxMean x) broadcasts_S20x32x1_S20x32x256))
    (broadcastTo S20x32x256
      (rsqrt (addf (subf (boxMean (mulf x x)) (mulf (boxMean x) (boxMean x))) (broadcast S20x32x1 (Scalar.ofBits .f32 0x3727C5AC#32))))
      broadcasts_S20x32x1_S20x32x256)

/-- The neighbours' sum along the joints (zeros `zj` beyond the ends), times the inverse degrees `d`. -/
def nbr (d : FVec F S1x32x1 .f32) (zj : FVec F S20x1x256 .f32) (x : FVec F S20x32x256 .f32) : FVec F S20x32x256 .f32 :=
  mulf
    (addf
      (concatenate S20x32x256 1 [⟨S20x1x256, zj⟩, ⟨S20x31x256, extractStridedSlice S20x31x256 ![0, 0, 0] x slices_S20x32x256_o0_0_0_S20x31x256⟩]
        concatenates_S20x1x256_S20x31x256_S20x32x256_d1)
      (concatenate S20x32x256 1 [⟨S20x31x256, extractStridedSlice S20x31x256 ![0, 1, 0] x slices_S20x32x256_o0_1_0_S20x31x256⟩, ⟨S20x1x256, zj⟩]
        concatenates_S20x31x256_S20x1x256_S20x32x256_d1))
    (broadcastTo S20x32x256 d broadcasts_S1x32x1_S20x32x256)

/-- A chunk's message-passing step. -/
def gStep (d : FVec F S1x32x1 .f32) (zj : FVec F S20x1x256 .f32) (x : FVec F S20x32x256 .f32) (wm wo : Vec F S1x256x256 .f32) :
    FVec F S20x32x256 .f32 :=
  shapeCast S20x32x256
    (rowNorm (addf (shapeCast S640x256 x shapeCasts_S20x32x256_S640x256)
      (mm (maximumf (mm (shapeCast S640x256 (nbr d zj x) shapeCasts_S20x32x256_S640x256)
          (shapeCast S256x256 wm shapeCasts_S1x256x256_S256x256)) (broadcast S640x256 (Scalar.ofBits .f32 0x00000000#32)))
        (shapeCast S256x256 wo shapeCasts_S1x256x256_S256x256))))
    shapeCasts_S640x256_S20x32x256

/-- A chunk's product with one tap of the temporal convolution. -/
def yStep (x : FVec F S20x32x256 .f32) (w : Vec F S1x1x256x256 .f32) : FVec F S20x32x256 .f32 :=
  shapeCast S20x32x256 (mm (shapeCast S640x256 x shapeCasts_S20x32x256_S640x256)
    (shapeCast S256x256 w shapeCasts_S1x1x256x256_S256x256)) shapeCasts_S640x256_S20x32x256

/-- The last time of a chunk. -/
def lastRow (y : FVec F S20x32x256 .f32) : FVec F S1x32x256 .f32 :=
  extractStridedSlice S1x32x256 ![19, 0, 0] y slices_S20x32x256_o19_0_0_S1x32x256

/-- The first time of a chunk. -/
def firstRow (y : FVec F S20x32x256 .f32) : FVec F S1x32x256 .f32 :=
  extractStridedSlice S1x32x256 ![0, 0, 0] y slices_S20x32x256_o0_0_0_S1x32x256

/-- A chunk's temporal step from its own three products and the one time before (`left`) and after (`right`) it. -/
def tStep (x : FVec F S20x32x256 .f32) (left : FVec F S1x32x256 .f32) (y0 y1 y2 : FVec F S20x32x256 .f32)
    (right : FVec F S1x32x256 .f32) : FVec F S20x32x256 .f32 :=
  boxNorm (addf x (maximumf
    (addf (addf y1 (concatenate S20x32x256 0 [⟨S1x32x256, left⟩, ⟨S19x32x256, extractStridedSlice S19x32x256 ![0, 0, 0] y0 slices_S20x32x256_o0_0_0_S19x32x256⟩]
        concatenates_S1x32x256_S19x32x256_S20x32x256_d0))
      (concatenate S20x32x256 0 [⟨S19x32x256, extractStridedSlice S19x32x256 ![1, 0, 0] y2 slices_S20x32x256_o1_0_0_S19x32x256⟩, ⟨S1x32x256, right⟩]
        concatenates_S19x32x256_S1x32x256_S20x32x256_d0))
    (broadcast S20x32x256 (Scalar.ofBits .f32 0x00000000#32))))

/-- A chunk's output projection. -/
def oStep (x : FVec F S20x32x256 .f32) (w : Vec F S256x3 .f32) : FVec F S1x20x32x3 .f32 :=
  shapeCast S1x20x32x3 (shapeCast S20x32x3
    (matmul dot_S640x256_S256x3_S640x3_1_0_0_1_n_n none (shapeCast S640x256 x shapeCasts_S20x32x256_S640x256) w (constant S640x3 .f32 0x00000000#32))
    shapeCasts_S640x3_S20x32x3) shapeCasts_S20x32x3_S1x20x32x3

end Terms

section Values

/-- 640 real rows, as an array of extended reals. -/
def enc2 (x : Fin 640 → Fin 256 → ℝ) : FVec Ideal S640x256 .f32 := fun j => ((x (j 0) (j 1) : ℝ) : EReal)

/-- A real chunk, as an array of extended reals. -/
def enc3 (x : Fin 20 → Fin 32 → Fin 256 → ℝ) : FVec Ideal S20x32x256 .f32 := fun j => ((x (j 0) (j 1) (j 2) : ℝ) : EReal)

/-- The 640 rows of a chunk. -/
def rows (x : Fin 20 → Fin 32 → Fin 256 → ℝ) : Fin 640 → Fin 256 → ℝ := fun r => x ⟨r.val / 32, by omega⟩ ⟨r.val % 32, by omega⟩

/-- The chunk of 640 rows. -/
def unrows (x : Fin 640 → Fin 256 → ℝ) : Fin 20 → Fin 32 → Fin 256 → ℝ := fun t j => x ⟨t.val * 32 + j.val, by omega⟩

/-- Applying a function to every row of the flattened chunk is applying it to every feature vector of the chunk. -/
theorem unrows_rows (f : (Fin 256 → ℝ) → Fin 256 → ℝ) (x : Fin 20 → Fin 32 → Fin 256 → ℝ) :
    unrows (fun r => f (rows x r)) = fun t j => f (x t j) := by
  funext t j
  have h1 : (⟨(t.val * 32 + j.val) / 32, by omega⟩ : Fin 20) = t := Fin.ext (by show (t.val * 32 + j.val) / 32 = t.val; omega)
  have h2 : (⟨(t.val * 32 + j.val) % 32, by omega⟩ : Fin 32) = j := Fin.ext (by show (t.val * 32 + j.val) % 32 = j.val; omega)
  simp only [unrows, rows, h1, h2]

/-- Flattening a chunk's time and joint axes. -/
theorem cast_rows (x : Fin 20 → Fin 32 → Fin 256 → ℝ) :
    shapeCast S640x256 (enc3 x) shapeCasts_S20x32x256_S640x256 = enc2 (rows x) := by
  funext j; idx_vars j; pointwise [enc3, enc2, rows]

/-- Splitting the flattened axis into time and joint again. -/
theorem cast_unrows (x : Fin 640 → Fin 256 → ℝ) :
    shapeCast S20x32x256 (enc2 x) shapeCasts_S640x256_S20x32x256 = enc3 (unrows x) := by
  funext j; idx_vars j; pointwise [enc3, enc2, unrows]

/-- The product of real rows with a real matrix. -/
theorem mm_val (x : Fin 640 → Fin 256 → ℝ) (w : Fin 256 → Fin 256 → ℝ) (W : FVec Ideal S256x256 .f32)
    (hW : ∀ q c, W (ix2 q c) = ((w q c : ℝ) : EReal)) : mm (enc2 x) W = enc2 fun r => dot (x r) w := by
  funext j; idx_vars j; pointwise [mm, enc2]
  simp only [hW]
  exact coe_dot _ _ _

/-- The layer normalisation of real rows. -/
theorem rowNorm_val (x : Fin 640 → Fin 256 → ℝ) : rowNorm (enc2 x) = enc2 fun r => ln (x r) := by
  funext j; idx_vars j; pointwise [rowNorm, rowMean, enc2]
  exact ln_of_squares _ _

/-- The layer normalisation of a real chunk. -/
theorem boxNorm_val (x : Fin 20 → Fin 32 → Fin 256 → ℝ) : boxNorm (enc3 x) = enc3 fun t j => ln (x t j) := by
  funext j; idx_vars j; pointwise [boxNorm, boxMean, enc3]
  exact ln_of_squares _ _

/-- The neighbours' sums of a real chunk, times the inverse degrees. -/
theorem nbr_val (d : Fin 32 → ℝ) (D : FVec Ideal S1x32x1 .f32) (hD : ∀ j, D (ix3 0 j 0) = ((d j : ℝ) : EReal))
    (Z : FVec Ideal S20x1x256 .f32) (hZ : ∀ j, Z j = 0) (x : Fin 20 → Fin 32 → Fin 256 → ℝ) :
    nbr D Z (enc3 x) = enc3 fun t j c => neighbours (x t) j c * d j := by
  funext i
  obtain ⟨t, j, c, rfl⟩ : ∃ (t : Fin 20) (j : Fin 32) (c : Fin 256), i = ix3 t j c := ⟨i 0, i 1, i 2, eq_ix3 i⟩
  pointwise [nbr, enc3, neighbours]
  simp only [hZ, hD]
  by_cases h0 : j.val < 1
  · have h1 : j.val < 31 := by omega
    have h2 : ¬ 0 < j.val := by omega
    have h3 : j.val + 1 < 32 := by omega
    have e : (⟨1 + j.val, by omega⟩ : Fin 32) = ⟨j.val + 1, h3⟩ := Fin.ext (Nat.add_comm _ _)
    simp only [h0, h1, h2, h3, dif_pos, dif_neg, not_false_eq_true, zero_add, e, EReal.coe_mul, EReal.coe_add, EReal.coe_zero]
  · by_cases h1 : j.val < 31
    · have h2 : 0 < j.val := by omega
      have h3 : j.val + 1 < 32 := by omega
      have e : (⟨1 + j.val, by omega⟩ : Fin 32) = ⟨j.val + 1, h3⟩ := Fin.ext (Nat.add_comm _ _)
      simp only [h0, h1, h2, h3, dif_pos, dif_neg, not_false_eq_true, e, EReal.coe_mul, EReal.coe_add]
    · have h2 : 0 < j.val := by omega
      have h3 : ¬ j.val + 1 < 32 := by omega
      simp only [h0, h1, h2, h3, dif_pos, dif_neg, not_false_eq_true, add_zero, EReal.coe_mul, EReal.coe_add, EReal.coe_zero]

/-- A real chunk's message-passing step is `graph` at each time. -/
theorem gStep_val (d : Fin 32 → ℝ) (D : FVec Ideal S1x32x1 .f32) (hD : ∀ j, D (ix3 0 j 0) = ((d j : ℝ) : EReal))
    (Z : FVec Ideal S20x1x256 .f32) (hZ : ∀ j, Z j = 0) (wm wo : Fin 256 → Fin 256 → ℝ) (WM WO : Vec Ideal S1x256x256 .f32)
    (hM : ∀ q c, WM (ix3 0 q c) = ((wm q c : ℝ) : EReal)) (hO : ∀ q c, WO (ix3 0 q c) = ((wo q c : ℝ) : EReal))
    (x : Fin 20 → Fin 32 → Fin 256 → ℝ) :
    gStep D Z (enc3 x) WM WO = enc3 fun t => graph d wm wo (x t) := by
  have hrelu : ∀ y : Fin 640 → Fin 256 → ℝ,
      maximumf (enc2 y) (broadcast S640x256 (Scalar.ofBits .f32 0x00000000#32)) = enc2 fun r c => max (y r c) 0 := by
    intro y; funext i; idx_vars i; pointwise [enc2]; exact coe_relu _
  have hadd : ∀ y z : Fin 640 → Fin 256 → ℝ, addf (enc2 y) (enc2 z) = enc2 fun r c => y r c + z r c := by
    intro y z; funext i; idx_vars i; pointwise [enc2]; exact (EReal.coe_add _ _).symm
  unfold gStep
  rw [nbr_val d D hD Z hZ, cast_rows, cast_rows,
    mm_val _ wm _ (fun q c => by pointwise; exact hM q c), hrelu, mm_val _ wo _ (fun q c => by pointwise; exact hO q c), hadd,
    rowNorm_val, cast_unrows]
  congr 1
  funext t j
  have h1 : (⟨(t.val * 32 + j.val) / 32, by omega⟩ : Fin 20) = t := Fin.ext (by show (t.val * 32 + j.val) / 32 = t.val; omega)
  have h2 : (⟨(t.val * 32 + j.val) % 32, by omega⟩ : Fin 32) = j := Fin.ext (by show (t.val * 32 + j.val) % 32 = j.val; omega)
  simp only [unrows, rows, h1, h2, graph]

/-- A real chunk's product with one tap. -/
theorem yStep_val (w : Fin 256 → Fin 256 → ℝ) (W : Vec Ideal S1x1x256x256 .f32) (hW : ∀ q c, W (ix4 0 0 q c) = ((w q c : ℝ) : EReal))
    (x : Fin 20 → Fin 32 → Fin 256 → ℝ) : yStep (enc3 x) W = enc3 fun t j => dot (x t j) w := by
  unfold yStep
  rw [cast_rows, mm_val _ w _ (fun q c => by pointwise; exact hW q c), cast_unrows, unrows_rows (fun r => dot r w)]

/-- Chunk `k` of a state: its times `20 k` to `20 k + 19`. -/
def chunk (X : State) (k : Fin 12) : FVec Ideal S20x32x256 .f32 := enc3 fun t => X ⟨20 * k.val + t.val, by omega⟩

/-- A chunk of a state, entrywise. -/
theorem chunk_apply (X : State) (k : Fin 12) (t : Fin 20) (j : Fin 32) (c : Fin 256) :
    chunk X k (ix3 t j c) = ((X ⟨20 * k.val + t.val, by omega⟩ j c : ℝ) : EReal) := rfl

/-- The kernel's message-passing step, applied to a chunk of a state, is that chunk of the state's own step. -/
theorem gStep_chunk (p : Data) (i : Fin 3) (D : FVec Ideal S1x32x1 .f32) (hD : ∀ j, D (ix3 0 j 0) = ((p.d j : ℝ) : EReal))
    (Z : FVec Ideal S20x1x256 .f32) (hZ : ∀ j, Z j = 0) (WM WO : Vec Ideal S1x256x256 .f32)
    (hM : ∀ q c, WM (ix3 0 q c) = ((p.wm i q c : ℝ) : EReal)) (hO : ∀ q c, WO (ix3 0 q c) = ((p.wo i q c : ℝ) : EReal))
    (X : State) (k : Fin 12) : gStep D Z (chunk X k) WM WO = chunk (p.step i X) k :=
  gStep_val p.d D hD Z hZ _ _ WM WO hM hO _

/-- The kernel's product with one tap's weights, applied to a chunk of a state, is that chunk of the state's product. -/
theorem yStep_chunk (w : Fin 256 → Fin 256 → ℝ) (W : Vec Ideal S1x1x256x256 .f32) (hW : ∀ q c, W (ix4 0 0 q c) = ((w q c : ℝ) : EReal))
    (X : State) (k : Fin 12) : yStep (chunk X k) W = chunk (lin w X) k :=
  yStep_val w W hW _

/-- A real chunk's temporal step, from the time before it and the time after it. -/
theorem tStep_chunk (X Y0 Y1 Y2 : State) (k : Fin 12) (L R : FVec Ideal S1x32x256 .f32)
    (hL : ∀ a j c, L (ix3 a j c) = (((if h : 0 < k.val then Y0 ⟨20 * k.val - 1, by omega⟩ j c else 0 : ℝ)) : EReal))
    (hR : ∀ a j c, R (ix3 a j c) = (((if h : k.val < 11 then Y2 ⟨20 * k.val + 20, by omega⟩ j c else 0 : ℝ)) : EReal)) :
    tStep (chunk X k) L (chunk Y0 k) (chunk Y1 k) (chunk Y2 k) R = chunk (residual X (taps Y0 Y1 Y2)) k := by
  have key : addf (chunk X k) (maximumf
      (addf (addf (chunk Y1 k) (concatenate S20x32x256 0 [⟨S1x32x256, L⟩, ⟨S19x32x256, extractStridedSlice S19x32x256 ![0, 0, 0] (chunk Y0 k) slices_S20x32x256_o0_0_0_S19x32x256⟩]
          concatenates_S1x32x256_S19x32x256_S20x32x256_d0))
        (concatenate S20x32x256 0 [⟨S19x32x256, extractStridedSlice S19x32x256 ![1, 0, 0] (chunk Y2 k) slices_S20x32x256_o1_0_0_S19x32x256⟩, ⟨S1x32x256, R⟩]
          concatenates_S19x32x256_S1x32x256_S20x32x256_d0))
      (broadcast S20x32x256 (Scalar.ofBits .f32 0x00000000#32)))
      = chunk (fun t j c => X t j c + max (taps Y0 Y1 Y2 t j c) 0) k := by
    funext i
    obtain ⟨t, j, c, rfl⟩ : ∃ (t : Fin 20) (j : Fin 32) (c : Fin 256), i = ix3 t j c := ⟨i 0, i 1, i 2, eq_ix3 i⟩
    pointwise
    simp only [chunk_apply, taps]
    have hl : (if h : t.val < 1 then L (ix3 ⟨t.val, h⟩ j c)
        else ((Y0 ⟨20 * k.val + (t.val - 1), by omega⟩ j c : ℝ) : EReal))
        = (((if h : 0 < 20 * k.val + t.val then Y0 ⟨20 * k.val + t.val - 1, by omega⟩ j c else 0 : ℝ)) : EReal) := by
      by_cases ht : t.val < 1
      · by_cases hk : 0 < k.val
        · have e : (⟨20 * k.val - 1, by omega⟩ : Fin 240) = ⟨20 * k.val + t.val - 1, by omega⟩ := Fin.ext (by show _ - 1 = _ - 1; omega)
          rw [dif_pos ht, hL, dif_pos hk, dif_pos (by omega), e]
        · rw [dif_pos ht, hL, dif_neg hk, dif_neg (by omega)]
      · have e : (⟨20 * k.val + (t.val - 1), by omega⟩ : Fin 240) = ⟨20 * k.val + t.val - 1, by omega⟩ := Fin.ext (by show _ + (_ - 1) = _ - 1; omega)
        rw [dif_neg ht, dif_pos (by omega), e]
    have hr : (if h : t.val < 19 then ((Y2 ⟨20 * k.val + (1 + t.val), by omega⟩ j c : ℝ) : EReal)
        else R (ix3 ⟨t.val - 19, by omega⟩ j c))
        = (((if h : 20 * k.val + t.val + 1 < 240 then Y2 ⟨20 * k.val + t.val + 1, h⟩ j c else 0 : ℝ)) : EReal) := by
      by_cases ht : t.val < 19
      · have e : (⟨20 * k.val + (1 + t.val), by omega⟩ : Fin 240) = ⟨20 * k.val + t.val + 1, by omega⟩ := Fin.ext (by show _ + (1 + _) = _ + 1; omega)
        rw [dif_pos ht, dif_pos (by omega), e]
      · by_cases hk : k.val < 11
        · have e : (⟨20 * k.val + 20, by omega⟩ : Fin 240) = ⟨20 * k.val + t.val + 1, by omega⟩ := Fin.ext (by show _ + 20 = _ + 1; omega)
          rw [dif_neg ht, hR, dif_pos hk, dif_pos (by omega), e]
        · rw [dif_neg ht, hR, dif_neg hk, dif_neg (by omega)]
    rw [hl, hr, ← EReal.coe_add, ← EReal.coe_add, coe_relu, ← EReal.coe_add]
  unfold tStep
  rw [key]
  exact boxNorm_val _

/-- The last time row of a chunk is the row before the next chunk's first. -/
theorem lastRow_chunk (Y : State) (k k' : Fin 12) (h : k.val = k'.val + 1) (a : Fin 1) (j : Fin 32) (c : Fin 256) :
    lastRow (chunk Y k') (ix3 a j c) = (((if h : 0 < k.val then Y ⟨20 * k.val - 1, by omega⟩ j c else 0 : ℝ)) : EReal) := by
  have e : (⟨20 * k'.val + 19, by omega⟩ : Fin 240) = ⟨20 * k.val - 1, by omega⟩ := Fin.ext (by show _ + 19 = _ - 1; omega)
  obtain rfl : a = 0 := Subsingleton.elim _ _
  rw [dif_pos (by omega), ← e]
  pointwise [lastRow]; exact chunk_apply _ _ _ _ _

/-- The first time row of a chunk is the row after the previous chunk's last. -/
theorem firstRow_chunk (Y : State) (k k' : Fin 12) (h : k'.val = k.val + 1) (a : Fin 1) (j : Fin 32) (c : Fin 256) :
    firstRow (chunk Y k') (ix3 a j c) = (((if h : k.val < 11 then Y ⟨20 * k.val + 20, by omega⟩ j c else 0 : ℝ)) : EReal) := by
  have e : (⟨20 * k'.val + 0, by omega⟩ : Fin 240) = ⟨20 * k.val + 20, by omega⟩ := Fin.ext (by show _ + 0 = _ + 20; omega)
  obtain rfl : a = 0 := Subsingleton.elim _ _
  rw [dif_pos (by omega), ← e]
  pointwise [firstRow]; exact chunk_apply _ _ _ _ _

/-- A real chunk's output projection, over any output matrix. -/
theorem oStep_chunk (X : State) (k : Fin 12) (W : Vec Ideal S256x3 .f32) (t : Fin 20) (j : Fin 32) (o : Fin 3) :
    oStep (chunk X k) W (ix4 0 t j o) = ∑ q : Fin 256, ((X ⟨20 * k.val + t.val, by omega⟩ j q : ℝ) : EReal) * W (ix2 q o) := by
  unfold oStep chunk
  rw [cast_rows]
  pointwise [enc2, rows]
  have h1 : (t.val * 32 + j.val) / 32 = t.val := by omega
  have h2 : (t.val * 32 + j.val) % 32 = j.val := by omega
  simp only [h1, h2]

end Values

end Cert.KernelIdeal.Steps

end
-- ==== Proof.KernelStages.lean ====
/- The kernel's stages, one theorem per chunk and layer: at arrays of real numbers, each stage's array holds the chunk of the
   decoder's state after that stage (`Cert.Decoder.Data`), and what a grid point writes back is the output projection of
   the final state. -/
module

public import proofs.«01_k».proof.Proof.KernelSteps
public import proofs.«01_k».proof.Proof.Gen.KernelIdeal.Frame
public import Idealize.ShloMosaic.Lib.Pipeline.ValueKit

@[expose] public section

set_option maxRecDepth 16384

noncomputable section

namespace Cert.KernelIdeal.Stages

open Idealize.ShloMosaic Cert.KernelIdeal Cert.KernelIdeal.Gen Cert.KernelIdeal.Steps Cert.Decoder

variable (p : Data) (w : Vec Ideal S256x3 .f32)

/-- The block of features that a grid point reads. -/
def xz : Vec Ideal S1x240x32x256 .f32 := fun j => ((p.z (j 1) (j 2) (j 3) : ℝ) : EReal)
/-- The inverse degrees. -/
def xd : Vec Ideal S1x32x1 .f32 := fun j => ((p.d (j 1) : ℝ) : EReal)
/-- The first matrices of the message-passing steps. -/
def xm : Vec Ideal S3x256x256 .f32 := fun j => ((p.wm (j 0) (j 1) (j 2) : ℝ) : EReal)
/-- The second matrices of the message-passing steps. -/
def xo : Vec Ideal S3x256x256 .f32 := fun j => ((p.wo (j 0) (j 1) (j 2) : ℝ) : EReal)
/-- The matrices of the temporal convolutions. -/
def xt : Vec Ideal S3x3x256x256 .f32 := fun j => ((p.wt (j 0) (j 1) (j 2) (j 3) : ℝ) : EReal)

/-- The inverse degrees as the steps read them. -/
abbrev dv : FVec Ideal S1x32x1 .f32 := k0_pay351 (xz p) (xd p) (xm p) (xo p) (xt p) w
/-- The zeros beyond the ends of the chain. -/
abbrev zj : FVec Ideal S20x1x256 .f32 := k0_pay352 (xz p) (xd p) (xm p) (xo p) (xt p) w
/-- The zeros beyond the ends of time. -/
abbrev zt : FVec Ideal S1x32x256 .f32 := k0_pay353 (xz p) (xd p) (xm p) (xo p) (xt p) w

/-- An inverse degree, entrywise. -/
theorem dv_apply (j : Fin 32) : dv p w (ix3 0 j 0) = ((p.d j : ℝ) : EReal) := by
  pointwise [dv, k0_pay351, k0_pay2, xd]

/-- The zero joint row, entrywise. -/
theorem zj_apply (j : S20x1x256.Idx) : zj p w j = 0 := by
  pointwise [zj, k0_pay352, k0_pay3]

/-- The zero time row, entrywise. -/
theorem zt_apply (j : S1x32x256.Idx) : zt p w j = 0 := by
  pointwise [zt, k0_pay353, k0_pay4]

/-- Layer 0's message weights of the message passing, as loaded. -/
theorem wm0 (q c : Fin 256) : View.ld (xm p) r0_13 (ix3 0 q c) = ((p.wm 0 q c : ℝ) : EReal) := by pointwise [xm]
/-- Layer 0's output weights of the message passing, as loaded. -/
theorem wo0 (q c : Fin 256) : View.ld (xo p) r0_13 (ix3 0 q c) = ((p.wo 0 q c : ℝ) : EReal) := by pointwise [xo]
/-- Layer 0's weights of tap 0, as loaded. -/
theorem wt00 (q c : Fin 256) : View.ld (xt p) r0_14 (ix4 0 0 q c) = ((p.wt 0 0 q c : ℝ) : EReal) := by pointwise [xt]
/-- Layer 0's weights of tap 1, as loaded. -/
theorem wt01 (q c : Fin 256) : View.ld (xt p) r0_15 (ix4 0 0 q c) = ((p.wt 0 1 q c : ℝ) : EReal) := by pointwise [xt]
/-- Layer 0's weights of tap 2, as loaded. -/
theorem wt02 (q c : Fin 256) : View.ld (xt p) r0_16 (ix4 0 0 q c) = ((p.wt 0 2 q c : ℝ) : EReal) := by pointwise [xt]
/-- Layer 1's message weights of the message passing, as loaded. -/
theorem wm1 (q c : Fin 256) : View.ld (xm p) r0_17 (ix3 0 q c) = ((p.wm 1 q c : ℝ) : EReal) := by pointwise [xm]
/-- Layer 1's output weights of the message passing, as loaded. -/
theorem wo1 (q c : Fin 256) : View.ld (xo p) r0_17 (ix3 0 q c) = ((p.wo 1 q c : ℝ) : EReal) := by pointwise [xo]
/-- Layer 1's weights of tap 0, as loaded. -/
theorem wt10 (q c : Fin 256) : View.ld (xt p) r0_18 (ix4 0 0 q c) = ((p.wt 1 0 q c : ℝ) : EReal) := by pointwise [xt]
/-- Layer 1's weights of tap 1, as loaded. -/
theorem wt11 (q c : Fin 256) : View.ld (xt p) r0_19 (ix4 0 0 q c) = ((p.wt 1 1 q c : ℝ) : EReal) := by pointwise [xt]
/-- Layer 1's weights of tap 2, as loaded. -/
theorem wt12 (q c : Fin 256) : View.ld (xt p) r0_20 (ix4 0 0 q c) = ((p.wt 1 2 q c : ℝ) : EReal) := by pointwise [xt]
/-- Layer 2's message weights of the message passing, as loaded. -/
theorem wm2 (q c : Fin 256) : View.ld (xm p) r0_21 (ix3 0 q c) = ((p.wm 2 q c : ℝ) : EReal) := by pointwise [xm]
/-- Layer 2's output weights of the message passing, as loaded. -/
theorem wo2 (q c : Fin 256) : View.ld (xo p) r0_21 (ix3 0 q c) = ((p.wo 2 q c : ℝ) : EReal) := by pointwise [xo]
/-- Layer 2's weights of tap 0, as loaded. -/
theorem wt20 (q c : Fin 256) : View.ld (xt p) r0_22 (ix4 0 0 q c) = ((p.wt 2 0 q c : ℝ) : EReal) := by pointwise [xt]
/-- Layer 2's weights of tap 1, as loaded. -/
theorem wt21 (q c : Fin 256) : View.ld (xt p) r0_23 (ix4 0 0 q c) = ((p.wt 2 1 q c : ℝ) : EReal) := by pointwise [xt]
/-- Layer 2's weights of tap 2, as loaded. -/
theorem wt22 (q c : Fin 256) : View.ld (xt p) r0_24 (ix4 0 0 q c) = ((p.wt 2 2 q c : ℝ) : EReal) := by pointwise [xt]

/-- The output weights as loaded. -/
theorem wout (q : Fin 256) (o : Fin 3) : View.ld w r0_25 (ix2 q o) = w (ix2 q o) := by pointwise

variable {p w}
variable {X : State} {v x xl xr : FVec Ideal S20x32x256 .f32} {WM WO : Vec Ideal S1x256x256 .f32} {W0 W1 W2 : Vec Ideal S1x1x256x256 .f32}

/-- A message-passing stage from the chunk it reads. -/
theorem graph_of (i : Fin 3) (k : Fin 12) (hM : ∀ q c, WM (ix3 0 q c) = ((p.wm i q c : ℝ) : EReal))
    (hO : ∀ q c, WO (ix3 0 q c) = ((p.wo i q c : ℝ) : EReal)) (hx : x = chunk X k) (e : v = gStep (dv p w) (zj p w) x WM WO) :
    v = chunk (p.step i X) k := by
  rw [e, hx]; exact gStep_chunk p i _ (dv_apply p w) _ (zj_apply p w) _ _ hM hO X k

/-- A temporal stage from its chunk and the chunks before and after it. -/
theorem mid_of (i : Fin 3) (kl k kr : Fin 12) (hl : k.val = kl.val + 1) (hr : kr.val = k.val + 1)
    (h0 : ∀ q c, W0 (ix4 0 0 q c) = ((p.wt i 0 q c : ℝ) : EReal)) (h1 : ∀ q c, W1 (ix4 0 0 q c) = ((p.wt i 1 q c : ℝ) : EReal))
    (h2 : ∀ q c, W2 (ix4 0 0 q c) = ((p.wt i 2 q c : ℝ) : EReal)) (hxl : xl = chunk X kl) (hx : x = chunk X k) (hxr : xr = chunk X kr) :
    tStep x (lastRow (yStep xl W0)) (yStep x W0) (yStep x W1) (yStep x W2) (firstRow (yStep xr W2)) = chunk (temporal (p.wt i) X) k := by
  rw [hxl, hx, hxr, yStep_chunk _ _ h0, yStep_chunk _ _ h0, yStep_chunk _ _ h1, yStep_chunk _ _ h2, yStep_chunk _ _ h2]
  exact tStep_chunk X _ _ _ k _ _ (lastRow_chunk _ k kl hl) (firstRow_chunk _ k kr hr)

/-- The first temporal stage, before which there is nothing. -/
theorem first_of (i : Fin 3) (kr : Fin 12) (hr : kr.val = 1)
    (h0 : ∀ q c, W0 (ix4 0 0 q c) = ((p.wt i 0 q c : ℝ) : EReal)) (h1 : ∀ q c, W1 (ix4 0 0 q c) = ((p.wt i 1 q c : ℝ) : EReal))
    (h2 : ∀ q c, W2 (ix4 0 0 q c) = ((p.wt i 2 q c : ℝ) : EReal)) (hx : x = chunk X 0) (hxr : xr = chunk X kr) :
    tStep x (zt p w) (yStep x W0) (yStep x W1) (yStep x W2) (firstRow (yStep xr W2)) = chunk (temporal (p.wt i) X) 0 := by
  rw [hx, hxr, yStep_chunk _ _ h0, yStep_chunk _ _ h1, yStep_chunk _ _ h2, yStep_chunk _ _ h2]
  refine tStep_chunk X _ _ _ 0 _ _ (fun a j c => ?_) (firstRow_chunk _ 0 kr hr)
  rw [zt_apply, dif_neg (by decide)]; rfl

/-- The last temporal stage, after which there is nothing. -/
theorem last_of (i : Fin 3) (kl : Fin 12) (hl : 11 = kl.val + 1)
    (h0 : ∀ q c, W0 (ix4 0 0 q c) = ((p.wt i 0 q c : ℝ) : EReal)) (h1 : ∀ q c, W1 (ix4 0 0 q c) = ((p.wt i 1 q c : ℝ) : EReal))
    (h2 : ∀ q c, W2 (ix4 0 0 q c) = ((p.wt i 2 q c : ℝ) : EReal)) (hxl : xl = chunk X kl) (hx : x = chunk X 11) :
    tStep x (lastRow (yStep xl W0)) (yStep x W0) (yStep x W1) (yStep x W2) (zt p w) = chunk (temporal (p.wt i) X) 11 := by
  rw [hxl, hx, yStep_chunk _ _ h0, yStep_chunk _ _ h0, yStep_chunk _ _ h1, yStep_chunk _ _ h2]
  refine tStep_chunk X _ _ _ 11 _ _ (lastRow_chunk _ 11 kl hl) (fun a j c => ?_)
  rw [zt_apply, dif_neg (by decide)]; rfl

variable (p w)

/-! The chunks of the features. -/

/-- Chunk 0 of the features. -/
theorem z0 : k0_pay354 (xz p) (xd p) (xm p) (xo p) (xt p) w = chunk p.z 0 := by
  funext j; idx_vars j; pointwise [k0_pay354, k0_pay5, xz]; show _ = ((p.z ⟨20 * 0 + j0.val, _⟩ j1 j2 : ℝ) : EReal); simp only [Nat.mul_zero, Nat.zero_add]
/-- Chunk 1 of the features. -/
theorem z1 : k0_pay355 (xz p) (xd p) (xm p) (xo p) (xt p) w = chunk p.z 1 := by
  funext j; idx_vars j; pointwise [k0_pay355, k0_pay6, xz]; rfl
/-- Chunk 2 of the features. -/
theorem z2 : k0_pay7 (View.ld (xz p) r0_3) = chunk p.z 2 := by
  funext j; idx_vars j; pointwise [k0_pay7, xz]; rfl
/-- Chunk 3 of the features. -/
theorem z3 : k0_pay356 (xz p) (xd p) (xm p) (xo p) (xt p) w = chunk p.z 3 := by
  funext j; idx_vars j; pointwise [k0_pay356, k0_pay8, xz]; rfl
/-- Chunk 4 of the features. -/
theorem z4 : k0_pay357 (xz p) (xd p) (xm p) (xo p) (xt p) w = chunk p.z 4 := by
  funext j; idx_vars j; pointwise [k0_pay357, k0_pay9, xz]; rfl
/-- Chunk 5 of the features. -/
theorem z5 : k0_pay358 (xz p) (xd p) (xm p) (xo p) (xt p) w = chunk p.z 5 := by
  funext j; idx_vars j; pointwise [k0_pay358, k0_pay10, xz]; rfl
/-- Chunk 6 of the features. -/
theorem z6 : k0_pay359 (xz p) (xd p) (xm p) (xo p) (xt p) w = chunk p.z 6 := by
  funext j; idx_vars j; pointwise [k0_pay359, k0_pay11, xz]; rfl
/-- Chunk 7 of the features. -/
theorem z7 : k0_pay360 (xz p) (xd p) (xm p) (xo p) (xt p) w = chunk p.z 7 := by
  funext j; idx_vars j; pointwise [k0_pay360, k0_pay12, xz]; rfl
/-- Chunk 8 of the features. -/
theorem z8 : k0_pay13 (View.ld (xz p) r0_9) = chunk p.z 8 := by
  funext j; idx_vars j; pointwise [k0_pay13, xz]; rfl
/-- Chunk 9 of the features. -/
theorem z9 : k0_pay14 (View.ld (xz p) r0_10) = chunk p.z 9 := by
  funext j; idx_vars j; pointwise [k0_pay14, xz]; rfl
/-- Chunk 10 of the features. -/
theorem z10 : k0_pay361 (xz p) (xd p) (xm p) (xo p) (xt p) w = chunk p.z 10 := by
  funext j; idx_vars j; pointwise [k0_pay361, k0_pay15, xz]; rfl
/-- Chunk 11 of the features. -/
theorem z11 : k0_pay362 (xz p) (xd p) (xm p) (xo p) (xt p) w = chunk p.z 11 := by
  funext j; idx_vars j; pointwise [k0_pay362, k0_pay16, xz]; rfl

/-! The first layer: after the message-passing step. -/

/-- Chunk 0 of the state after layer 0's message passing. -/
theorem g0_0 : k0_pay363 (xz p) (xd p) (xm p) (xo p) (xt p) w = chunk p.g0 0 :=
  graph_of (w := w) 0 0 (wm0 p) (wo0 p) (z0 p w) rfl
/-- Chunk 1 of the state after layer 0's message passing. -/
theorem g0_1 : k0_pay364 (xz p) (xd p) (xm p) (xo p) (xt p) w = chunk p.g0 1 :=
  graph_of (w := w) 0 1 (wm0 p) (wo0 p) (z1 p w) rfl
/-- Chunk 2 of the state after layer 0's message passing. -/
theorem g0_2 : k0_pay365 (xz p) (xd p) (xm p) (xo p) (xt p) w = chunk p.g0 2 :=
  graph_of (w := w) 0 2 (wm0 p) (wo0 p) (z2 p) rfl
/-- Chunk 3 of the state after layer 0's message passing. -/
theorem g0_3 : k0_pay366 (xz p) (xd p) (xm p) (xo p) (xt p) w = chunk p.g0 3 :=
  graph_of (w := w) 0 3 (wm0 p) (wo0 p) (z3 p w) rfl
/-- Chunk 4 of the state after layer 0's message passing. -/
theorem g0_4 : k0_pay367 (xz p) (xd p) (xm p) (xo p) (xt p) w = chunk p.g0 4 :=
  graph_of (w := w) 0 4 (wm0 p) (wo0 p) (z4 p w) rfl
/-- Chunk 5 of the state after layer 0's message passing. -/
theorem g0_5 : k0_pay368 (xz p) (xd p) (xm p) (xo p) (xt p) w = chunk p.g0 5 :=
  graph_of (w := w) 0 5 (wm0 p) (wo0 p) (z5 p w) rfl
/-- Chunk 6 of the state after layer 0's message passing. -/
theorem g0_6 : k0_pay369 (xz p) (xd p) (xm p) (xo p) (xt p) w = chunk p.g0 6 :=
  graph_of (w := w) 0 6 (wm0 p) (wo0 p) (z6 p w) rfl
/-- Chunk 7 of the state after layer 0's message passing. -/
theorem g0_7 : k0_pay370 (xz p) (xd p) (xm p) (xo p) (xt p) w = chunk p.g0 7 :=
  graph_of (w := w) 0 7 (wm0 p) (wo0 p) (z7 p w) rfl
/-- Chunk 8 of the state after layer 0's message passing. -/
theorem g0_8 : k0_pay371 (xz p) (xd p) (xm p) (xo p) (xt p) w = chunk p.g0 8 :=
  graph_of (w := w) 0 8 (wm0 p) (wo0 p) (z8 p) rfl
/-- Chunk 9 of the state after layer 0's message passing. -/
theorem g0_9 : k0_pay372 (xz p) (xd p) (xm p) (xo p) (xt p) w = chunk p.g0 9 :=
  graph_of (w := w) 0 9 (wm0 p) (wo0 p) (z9 p) rfl
/-- Chunk 10 of the state after layer 0's message passing. -/
theorem g0_10 : k0_pay373 (xz p) (xd p) (xm p) (xo p) (xt p) w = chunk p.g0 10 :=
  graph_of (w := w) 0 10 (wm0 p) (wo0 p) (z10 p w) rfl
/-- Chunk 11 of the state after layer 0's message passing. -/
theorem g0_11 : k0_pay374 (xz p) (xd p) (xm p) (xo p) (xt p) w = chunk p.g0 11 :=
  graph_of (w := w) 0 11 (wm0 p) (wo0 p) (z11 p w) rfl

/-! The first layer: after the temporal step, where the program names the array. -/

/-- Chunk 1 of the state after layer 0's temporal convolution. -/
theorem t0_1 : k0_pay402 (xz p) (xd p) (xm p) (xo p) (xt p) w = chunk p.h1 1 :=
  mid_of 0 0 1 2 rfl rfl (wt00 p) (wt01 p) (wt02 p) (g0_0 p w) (g0_1 p w) (g0_2 p w)
/-- Chunk 2 of the state after layer 0's temporal convolution. -/
theorem t0_2 : k0_pay403 (xz p) (xd p) (xm p) (xo p) (xt p) w = chunk p.h1 2 :=
  mid_of 0 1 2 3 rfl rfl (wt00 p) (wt01 p) (wt02 p) (g0_1 p w) (g0_2 p w) (g0_3 p w)
/-- Chunk 4 of the state after layer 0's temporal convolution. -/
theorem t0_4 : k0_pay404 (xz p) (xd p) (xm p) (xo p) (xt p) w = chunk p.h1 4 :=
  mid_of 0 3 4 5 rfl rfl (wt00 p) (wt01 p) (wt02 p) (g0_3 p w) (g0_4 p w) (g0_5 p w)
/-- Chunk 5 of the state after layer 0's temporal convolution. -/
theorem t0_5 : k0_pay405 (xz p) (xd p) (xm p) (xo p) (xt p) w = chunk p.h1 5 :=
  mid_of 0 4 5 6 rfl rfl (wt00 p) (wt01 p) (wt02 p) (g0_4 p w) (g0_5 p w) (g0_6 p w)
/-- Chunk 6 of the state after layer 0's temporal convolution. -/
theorem t0_6 : k0_pay406 (xz p) (xd p) (xm p) (xo p) (xt p) w = chunk p.h1 6 :=
  mid_of 0 5 6 7 rfl rfl (wt00 p) (wt01 p) (wt02 p) (g0_5 p w) (g0_6 p w) (g0_7 p w)
/-- Chunk 7 of the state after layer 0's temporal convolution. -/
theorem t0_7 : k0_pay407 (xz p) (xd p) (xm p) (xo p) (xt p) w = chunk p.h1 7 :=
  mid_of 0 6 7 8 rfl rfl (wt00 p) (wt01 p) (wt02 p) (g0_6 p w) (g0_7 p w) (g0_8 p w)
/-- Chunk 8 of the state after layer 0's temporal convolution. -/
theorem t0_8 : k0_pay408 (xz p) (xd p) (xm p) (xo p) (xt p) w = chunk p.h1 8 :=
  mid_of 0 7 8 9 rfl rfl (wt00 p) (wt01 p) (wt02 p) (g0_7 p w) (g0_8 p w) (g0_9 p w)
/-- Chunk 9 of the state after layer 0's temporal convolution. -/
theorem t0_9 : k0_pay409 (xz p) (xd p) (xm p) (xo p) (xt p) w = chunk p.h1 9 :=
  mid_of 0 8 9 10 rfl rfl (wt00 p) (wt01 p) (wt02 p) (g0_8 p w) (g0_9 p w) (g0_10 p w)
/-- Chunk 11 of the state after layer 0's temporal convolution. -/
theorem t0_11 : k0_pay410 (xz p) (xd p) (xm p) (xo p) (xt p) w = chunk p.h1 11 :=
  last_of (w := w) 0 10 rfl (wt00 p) (wt01 p) (wt02 p) (g0_10 p w) (g0_11 p w)

/-! The second layer: after the message-passing step. -/

/-- Chunk 0 of the state after layer 1's message passing. -/
theorem g1_0 : k0_pay411 (xz p) (xd p) (xm p) (xo p) (xt p) w = chunk p.g1 0 :=
  graph_of (w := w) 1 0 (wm1 p) (wo1 p) (first_of (w := w) 0 1 rfl (wt00 p) (wt01 p) (wt02 p) (g0_0 p w) (g0_1 p w)) rfl
/-- Chunk 1 of the state after layer 1's message passing. -/
theorem g1_1 : k0_pay412 (xz p) (xd p) (xm p) (xo p) (xt p) w = chunk p.g1 1 :=
  graph_of (w := w) 1 1 (wm1 p) (wo1 p) (t0_1 p w) rfl
/-- Chunk 2 of the state after layer 1's message passing. -/
theorem g1_2 : k0_pay413 (xz p) (xd p) (xm p) (xo p) (xt p) w = chunk p.g1 2 :=
  graph_of (w := w) 1 2 (wm1 p) (wo1 p) (t0_2 p w) rfl
/-- Chunk 3 of the state after layer 1's message passing. -/
theorem g1_3 : k0_pay414 (xz p) (xd p) (xm p) (xo p) (xt p) w = chunk p.g1 3 :=
  graph_of (w := w) 1 3 (wm1 p) (wo1 p) (mid_of 0 2 3 4 rfl rfl (wt00 p) (wt01 p) (wt02 p) (g0_2 p w) (g0_3 p w) (g0_4 p w)) rfl
/-- Chunk 4 of the state after layer 1's message passing. -/
theorem g1_4 : k0_pay415 (xz p) (xd p) (xm p) (xo p) (xt p) w = chunk p.g1 4 :=
  graph_of (w := w) 1 4 (wm1 p) (wo1 p) (t0_4 p w) rfl
/-- Chunk 5 of the state after layer 1's message passing. -/
theorem g1_5 : k0_pay416 (xz p) (xd p) (xm p) (xo p) (xt p) w = chunk p.g1 5 :=
  graph_of (w := w) 1 5 (wm1 p) (wo1 p) (t0_5 p w) rfl
/-- Chunk 6 of the state after layer 1's message passing. -/
theorem g1_6 : k0_pay417 (xz p) (xd p) (xm p) (xo p) (xt p) w = chunk p.g1 6 :=
  graph_of (w := w) 1 6 (wm1 p) (wo1 p) (t0_6 p w) rfl
/-- Chunk 7 of the state after layer 1's message passing. -/
theorem g1_7 : k0_pay418 (xz p) (xd p) (xm p) (xo p) (xt p) w = chunk p.g1 7 :=
  graph_of (w := w) 1 7 (wm1 p) (wo1 p) (t0_7 p w) rfl
/-- Chunk 8 of the state after layer 1's message passing. -/
theorem g1_8 : k0_pay419 (xz p) (xd p) (xm p) (xo p) (xt p) w = chunk p.g1 8 :=
  graph_of (w := w) 1 8 (wm1 p) (wo1 p) (t0_8 p w) rfl
/-- Chunk 9 of the state after layer 1's message passing. -/
theorem g1_9 : k0_pay420 (xz p) (xd p) (xm p) (xo p) (xt p) w = chunk p.g1 9 :=
  graph_of (w := w) 1 9 (wm1 p) (wo1 p) (t0_9 p w) rfl
/-- Chunk 10 of the state after layer 1's message passing. -/
theorem g1_10 : k0_pay421 (xz p) (xd p) (xm p) (xo p) (xt p) w = chunk p.g1 10 :=
  graph_of (w := w) 1 10 (wm1 p) (wo1 p) (mid_of 0 9 10 11 rfl rfl (wt00 p) (wt01 p) (wt02 p) (g0_9 p w) (g0_10 p w) (g0_11 p w)) rfl
/-- Chunk 11 of the state after layer 1's message passing. -/
theorem g1_11 : k0_pay422 (xz p) (xd p) (xm p) (xo p) (xt p) w = chunk p.g1 11 :=
  graph_of (w := w) 1 11 (wm1 p) (wo1 p) (t0_11 p w) rfl

/-! The second layer: after the temporal step, where the program names the array. -/

/-- Chunk 0 of the state after layer 1's temporal convolution. -/
theorem t1_0 : k0_pay450 (xz p) (xd p) (xm p) (xo p) (xt p) w = chunk p.h2 0 :=
  first_of (w := w) 1 1 rfl (wt10 p) (wt11 p) (wt12 p) (g1_0 p w) (g1_1 p w)
/-- Chunk 2 of the state after layer 1's temporal convolution. -/
theorem t1_2 : k0_pay451 (xz p) (xd p) (xm p) (xo p) (xt p) w = chunk p.h2 2 :=
  mid_of 1 1 2 3 rfl rfl (wt10 p) (wt11 p) (wt12 p) (g1_1 p w) (g1_2 p w) (g1_3 p w)
/-- Chunk 3 of the state after layer 1's temporal convolution. -/
theorem t1_3 : k0_pay452 (xz p) (xd p) (xm p) (xo p) (xt p) w = chunk p.h2 3 :=
  mid_of 1 2 3 4 rfl rfl (wt10 p) (wt11 p) (wt12 p) (g1_2 p w) (g1_3 p w) (g1_4 p w)
/-- Chunk 5 of the state after layer 1's temporal convolution. -/
theorem t1_5 : k0_pay453 (xz p) (xd p) (xm p) (xo p) (xt p) w = chunk p.h2 5 :=
  mid_of 1 4 5 6 rfl rfl (wt10 p) (wt11 p) (wt12 p) (g1_4 p w) (g1_5 p w) (g1_6 p w)
/-- Chunk 6 of the state after layer 1's temporal convolution. -/
theorem t1_6 : k0_pay454 (xz p) (xd p) (xm p) (xo p) (xt p) w = chunk p.h2 6 :=
  mid_of 1 5 6 7 rfl rfl (wt10 p) (wt11 p) (wt12 p) (g1_5 p w) (g1_6 p w) (g1_7 p w)
/-- Chunk 7 of the state after layer 1's temporal convolution. -/
theorem t1_7 : k0_pay455 (xz p) (xd p) (xm p) (xo p) (xt p) w = chunk p.h2 7 :=
  mid_of 1 6 7 8 rfl rfl (wt10 p) (wt11 p) (wt12 p) (g1_6 p w) (g1_7 p w) (g1_8 p w)
/-- Chunk 8 of the state after layer 1's temporal convolution. -/
theorem t1_8 : k0_pay456 (xz p) (xd p) (xm p) (xo p) (xt p) w = chunk p.h2 8 :=
  mid_of 1 7 8 9 rfl rfl (wt10 p) (wt11 p) (wt12 p) (g1_7 p w) (g1_8 p w) (g1_9 p w)
/-- Chunk 9 of the state after layer 1's temporal convolution. -/
theorem t1_9 : k0_pay457 (xz p) (xd p) (xm p) (xo p) (xt p) w = chunk p.h2 9 :=
  mid_of 1 8 9 10 rfl rfl (wt10 p) (wt11 p) (wt12 p) (g1_8 p w) (g1_9 p w) (g1_10 p w)
/-- Chunk 10 of the state after layer 1's temporal convolution. -/
theorem t1_10 : k0_pay458 (xz p) (xd p) (xm p) (xo p) (xt p) w = chunk p.h2 10 :=
  mid_of 1 9 10 11 rfl rfl (wt10 p) (wt11 p) (wt12 p) (g1_9 p w) (g1_10 p w) (g1_11 p w)

/-! The third layer: after the message-passing step. -/

/-- Chunk 0 of the state after layer 2's message passing. -/
theorem g2_0 : k0_pay459 (xz p) (xd p) (xm p) (xo p) (xt p) w = chunk p.g2 0 :=
  graph_of (w := w) 2 0 (wm2 p) (wo2 p) (t1_0 p w) rfl
/-- Chunk 1 of the state after layer 2's message passing. -/
theorem g2_1 : k0_pay460 (xz p) (xd p) (xm p) (xo p) (xt p) w = chunk p.g2 1 :=
  graph_of (w := w) 2 1 (wm2 p) (wo2 p) (mid_of 1 0 1 2 rfl rfl (wt10 p) (wt11 p) (wt12 p) (g1_0 p w) (g1_1 p w) (g1_2 p w)) rfl
/-- Chunk 2 of the state after layer 2's message passing. -/
theorem g2_2 : k0_pay461 (xz p) (xd p) (xm p) (xo p) (xt p) w = chunk p.g2 2 :=
  graph_of (w := w) 2 2 (wm2 p) (wo2 p) (t1_2 p w) rfl
/-- Chunk 3 of the state after layer 2's message passing. -/
theorem g2_3 : k0_pay462 (xz p) (xd p) (xm p) (xo p) (xt p) w = chunk p.g2 3 :=
  graph_of (w := w) 2 3 (wm2 p) (wo2 p) (t1_3 p w) rfl
/-- Chunk 4 of the state after layer 2's message passing. -/
theorem g2_4 : k0_pay463 (xz p) (xd p) (xm p) (xo p) (xt p) w = chunk p.g2 4 :=
  graph_of (w := w) 2 4 (wm2 p) (wo2 p) (mid_of 1 3 4 5 rfl rfl (wt10 p) (wt11 p) (wt12 p) (g1_3 p w) (g1_4 p w) (g1_5 p w)) rfl
/-- Chunk 5 of the state after layer 2's message passing. -/
theorem g2_5 : k0_pay464 (xz p) (xd p) (xm p) (xo p) (xt p) w = chunk p.g2 5 :=
  graph_of (w := w) 2 5 (wm2 p) (wo2 p) (t1_5 p w) rfl
/-- Chunk 6 of the state after layer 2's message passing. -/
theorem g2_6 : k0_pay465 (xz p) (xd p) (xm p) (xo p) (xt p) w = chunk p.g2 6 :=
  graph_of (w := w) 2 6 (wm2 p) (wo2 p) (t1_6 p w) rfl
/-- Chunk 7 of the state after layer 2's message passing. -/
theorem g2_7 : k0_pay466 (xz p) (xd p) (xm p) (xo p) (xt p) w = chunk p.g2 7 :=
  graph_of (w := w) 2 7 (wm2 p) (wo2 p) (t1_7 p w) rfl
/-- Chunk 8 of the state after layer 2's message passing. -/
theorem g2_8 : k0_pay467 (xz p) (xd p) (xm p) (xo p) (xt p) w = chunk p.g2 8 :=
  graph_of (w := w) 2 8 (wm2 p) (wo2 p) (t1_8 p w) rfl
/-- Chunk 9 of the state after layer 2's message passing. -/
theorem g2_9 : k0_pay468 (xz p) (xd p) (xm p) (xo p) (xt p) w = chunk p.g2 9 :=
  graph_of (w := w) 2 9 (wm2 p) (wo2 p) (t1_9 p w) rfl
/-- Chunk 10 of the state after layer 2's message passing. -/
theorem g2_10 : k0_pay469 (xz p) (xd p) (xm p) (xo p) (xt p) w = chunk p.g2 10 :=
  graph_of (w := w) 2 10 (wm2 p) (wo2 p) (t1_10 p w) rfl
/-- Chunk 11 of the state after layer 2's message passing. -/
theorem g2_11 : k0_pay470 (xz p) (xd p) (xm p) (xo p) (xt p) w = chunk p.g2 11 :=
  graph_of (w := w) 2 11 (wm2 p) (wo2 p) (last_of (w := w) 1 10 rfl (wt10 p) (wt11 p) (wt12 p) (g1_10 p w) (g1_11 p w)) rfl

/-! What a grid point writes back. -/

/-- The output projection of the final state. -/
def out : Vec Ideal S1x240x32x3 .f32 := fun y => ∑ q : Fin 256, ((p.h3 (y 1) (y 2) q : ℝ) : EReal) * w (ix2 q (y 3))

variable {p w}

/-- A written chunk, from the final state's chunk. -/
theorem out_of (k : Fin 12) {u : FVec Ideal S1x20x32x3 .f32} (hx : x = chunk p.h3 k) (e : u = oStep x (View.ld w r0_25))
    (y : S1x20x32x3.Idx) (i : S1x240x32x3.Idx) (h1 : (i 1).val = 20 * k.val + (y 1).val) (h2 : (i 2).val = (y 2).val)
    (h3 : (i 3).val = (y 3).val) : u y = out p w i := by
  obtain ⟨a, t, j, o, rfl⟩ : ∃ (a : Fin 1) (t : Fin 20) (j : Fin 32) (o : Fin 3), y = ix4 a t j o := ⟨y 0, y 1, y 2, y 3, eq_ix4 y⟩
  obtain ⟨a', t', j', o', rfl⟩ : ∃ (a : Fin 1) (t : Fin 240) (j : Fin 32) (o : Fin 3), i = ix4 a t j o := ⟨i 0, i 1, i 2, i 3, eq_ix4 i⟩
  obtain rfl : a = 0 := Subsingleton.elim _ _
  have hb : 20 * k.val + t.val < 240 := by clear h1 h2 h3; omega
  obtain rfl : t' = ⟨20 * k.val + t.val, hb⟩ := Fin.ext h1
  obtain rfl : j' = j := Fin.ext h2
  obtain rfl : o' = o := Fin.ext h3
  rw [e, hx, oStep_chunk]
  exact Finset.sum_congr rfl fun q _ => congrArg _ (wout w q o')

variable (p w)

/-- A grid point writes back the output projection of the final state. -/
theorem out_eq : out0_6 (xz p) (xd p) (xm p) (xo p) (xt p) w = out p w := by
  funext i
  unfold out0_6
  canon_tiles y h
  · exact out_of 11 (last_of (w := w) 2 10 rfl (wt20 p) (wt21 p) (wt22 p) (g2_10 p w) (g2_11 p w)) rfl y i (by omega) h2 h3
  · exact out_of 10 (mid_of 2 9 10 11 rfl rfl (wt20 p) (wt21 p) (wt22 p) (g2_9 p w) (g2_10 p w) (g2_11 p w)) rfl y i (by omega) h2 h3
  · exact out_of 9 (mid_of 2 8 9 10 rfl rfl (wt20 p) (wt21 p) (wt22 p) (g2_8 p w) (g2_9 p w) (g2_10 p w)) rfl y i (by omega) h2 h3
  · exact out_of 8 (mid_of 2 7 8 9 rfl rfl (wt20 p) (wt21 p) (wt22 p) (g2_7 p w) (g2_8 p w) (g2_9 p w)) rfl y i (by omega) h2 h3
  · exact out_of 7 (mid_of 2 6 7 8 rfl rfl (wt20 p) (wt21 p) (wt22 p) (g2_6 p w) (g2_7 p w) (g2_8 p w)) rfl y i (by omega) h2 h3
  · exact out_of 6 (mid_of 2 5 6 7 rfl rfl (wt20 p) (wt21 p) (wt22 p) (g2_5 p w) (g2_6 p w) (g2_7 p w)) rfl y i (by omega) h2 h3
  · exact out_of 5 (mid_of 2 4 5 6 rfl rfl (wt20 p) (wt21 p) (wt22 p) (g2_4 p w) (g2_5 p w) (g2_6 p w)) rfl y i (by omega) h2 h3
  · exact out_of 4 (mid_of 2 3 4 5 rfl rfl (wt20 p) (wt21 p) (wt22 p) (g2_3 p w) (g2_4 p w) (g2_5 p w)) rfl y i (by omega) h2 h3
  · exact out_of 3 (mid_of 2 2 3 4 rfl rfl (wt20 p) (wt21 p) (wt22 p) (g2_2 p w) (g2_3 p w) (g2_4 p w)) rfl y i (by omega) h2 h3
  · exact out_of 2 (mid_of 2 1 2 3 rfl rfl (wt20 p) (wt21 p) (wt22 p) (g2_1 p w) (g2_2 p w) (g2_3 p w)) rfl y i (by omega) h2 h3
  · exact out_of 1 (mid_of 2 0 1 2 rfl rfl (wt20 p) (wt21 p) (wt22 p) (g2_0 p w) (g2_1 p w) (g2_2 p w)) rfl y i (by omega) h2 h3
  · exact out_of 0 (first_of (w := w) 2 1 rfl (wt20 p) (wt21 p) (wt22 p) (g2_0 p w) (g2_1 p w)) rfl y i (by omega) h2 h3

end Cert.KernelIdeal.Stages

end
-- ==== Proof.RefSteps.lean ====
/- The reference's steps as functions of the arrays they read: the layer normalisation, the message-passing step and the
   temporal convolution with its residual; and the normalisation's and the convolution's values, entry by entry, at arrays
   of real numbers: the steps of `Cert.Decoder`. -/
module

public import proofs.«01_k».proof.Proof.Reals
public import proofs.«01_k».proof.Proof.Gen.ReferenceIdeal.Run

@[expose] public section

set_option maxRecDepth 16384

noncomputable section

namespace Cert.ReferenceIdeal.Steps

open Idealize.ShloMosaic Cert.ReferenceIdeal Cert.ReferenceIdeal.Gen Cert.Decoder

section Terms

variable {F : FTy → Type} [FloatOps F]

/-- Joint numbers below zero count from the end; the numbers then stand in a column. -/
def wrapped (w : IVec S62 32) : IVec S62x1 32 :=
  broadcastInDim S62x1 ![0] bcast_S62_S62x1_0
    (select (cmpi .slt w (broadcastInDim S62 ![] bcast_S_S62 (constantI S_ 32 0#32)))
      (addi w (broadcastInDim S62 ![] bcast_S_S62 (constantI S_ 32 32#32))) w)

/-- The degrees of the joints, at least one: how often each occurs among the edges' targets. -/
def degrees (dst : IVec S62 32) : FVec F S32 .f32 :=
  maximumf (broadcastInDim S32 ![] bcast_S_S32 (id (constant S_ .f32 0x3F800000#32)))
    (Host.scatterAdd scatter_S32_S62x1_S62_n_0_0_1 (broadcastInDim S32 ![] bcast_S_S32 (constant S_ .f32 0x00000000#32)) (wrapped dst)
      (broadcastInDim S62 ![] bcast_S_S62 (constant S_ .f32 0x3F800000#32)))

/-- A feature vector repeated over batch, time and joint. -/
def along (v : FVec F S256 .f32) : FVec F S32x240x32x256 .f32 :=
  broadcastInDim S32x240x32x256 ![0, 1, 2, 3] bcast_S1x1x1x256_S32x240x32x256_0_1_2_3 (broadcastInDim S1x1x1x256 ![3] bcast_S256_S1x1x1x256_3 v)

/-- The features of every edge's source: not a number where the edge names no joint. -/
def sources (h : FVec F S32x240x32x256 .f32) (i : IVec S62x1 32) : FVec F S32x240x62x256 .f32 :=
  select
    (broadcastInDim S32x240x62x256 ![2] bcast_S62_S32x240x62x256_2
      (Host.reduce IntOp.andi
        (andi (cmpi .sge i (broadcastInDim S62x1 ![] bcast_S_S62x1 (constantI S_ 32 0#32)))
          (cmpi .sle i (broadcastInDim S62x1 ![0, 1] bcast_S1x1_S62x1_0_1 (broadcastInDim S1x1 ![1] bcast_S1_S1x1_1 (constantI S1 32 31#32)))))
        (constantI S_ 1 1#1) reducesTo_S62x1_S62_d1 h_S_))
    (Host.gather gather_S32x240x32x256_S62x1_S32x240x62x256_013_2_n_n_2_1_322401256 h i)
    (broadcastInDim S32x240x62x256 ![] bcast_S_S32x240x62x256 (constant S_ .f32 0x7FC00000#32))

/-- The messages of the edges: the sources' features times a matrix, and a bias. -/
def messages (h : FVec F S32x240x32x256 .f32) (src : IVec S62x1 32) (wm : FVec F S256x256 .f32) (bm : FVec F S256 .f32) :
    FVec F S32x240x62x256 .f32 :=
  addf (Host.dotGeneral dot_S32x240x62x256_S256x256_S32x240x62x256_3_0_012_1_n_n none (sources h src) wm)
    (broadcastInDim S32x240x62x256 ![0, 1, 2, 3] bcast_S1x1x1x256_S32x240x62x256_0_1_2_3 (broadcastInDim S1x1x1x256 ![3] bcast_S256_S1x1x1x256_3 bm))

/-- The messages added up by target. -/
def gathered (u : FVec F S32x240x62x256 .f32) (dst : IVec S62 32) : FVec F S32x240x32x256 .f32 :=
  transpose S32x240x32x256 [1, 2, 0, 3]
    (Host.scatterAdd scatter_S32x32x240x256_S62x1_S62x32x240x256_123_0_0_1
      (broadcastInDim S32x32x240x256 ![] bcast_S_S32x32x240x256 (constant S_ .f32 0x00000000#32)) (broadcastInDim S62x1 ![0] bcast_S62_S62x1_0 dst)
      (transpose S62x32x240x256 [2, 0, 1, 3] u transposes_S32x240x62x256_S62x32x240x256_2_0_1_3))
    transposes_S32x32x240x256_S32x240x32x256_1_2_0_3

/-- The features and what the rectified mean message adds to them. -/
def merged (h agg : FVec F S32x240x32x256 .f32) (deg : FVec F S32 .f32) (wo : FVec F S256x256 .f32) (bo : FVec F S256 .f32) :
    FVec F S32x240x32x256 .f32 :=
  addf h (addf (Host.dotGeneral dot_S32x240x32x256_S256x256_S32x240x32x256_3_0_012_1_n_n none
      (maximumf
        (Host.divf agg (broadcastInDim S32x240x32x256 ![0, 1, 2, 3] bcast_S1x1x32x1_S32x240x32x256_0_1_2_3
          (broadcastInDim S1x1x32x1 ![2] bcast_S32_S1x1x32x1_2 deg)))
        (broadcastInDim S32x240x32x256 ![] bcast_S_S32x240x32x256 (constant S_ .f32 0x00000000#32)))
      wo)
    (along bo))

/-- The message-passing step before its normalisation. -/
def message (h : FVec F S32x240x32x256 .f32) (src dst : IVec S62 32) (deg : FVec F S32 .f32) (wm : FVec F S256x256 .f32) (bm : FVec F S256 .f32)
    (wo : FVec F S256x256 .f32) (bo : FVec F S256 .f32) : FVec F S32x240x32x256 .f32 :=
  merged h (gathered (messages h (wrapped src) wm bm) dst) deg wo bo

/-- The distance from the mean over the features. -/
def centred (x : FVec F S32x240x32x256 .f32) : FVec F S32x240x32x256 .f32 :=
  subf x (broadcastInDim S32x240x32x256 ![0, 1, 2, 3] bcast_S32x240x32x1_S32x240x32x256_0_1_2_3
    (Host.divf (broadcastInDim S32x240x32x1 ![0, 1, 2] bcast_S32x240x32_S32x240x32x1_0_1_2
        (Host.reduceAdd x (constant S_ .f32 0x00000000#32) reducesTo_S32x240x32x256_S32x240x32_d3 h_S_))
      (broadcastInDim S32x240x32x1 ![] bcast_S_S32x240x32x1 (constant S_ .f32 0x43800000#32))))

/-- The number of features that the variance divides by. -/
def count : FVec F S_ .f32 := subf (constant S_ .f32 0x43800000#32) (sitofp .f32 (constantI S_ 32 0#32))

/-- The variance over the features. -/
def variance (x : FVec F S32x240x32x256 .f32) : FVec F S32x240x32x1 .f32 :=
  select (broadcastInDim S32x240x32x1 ![] bcast_S_S32x240x32x1 (cmpf .ogt (count : FVec F S_ .f32) (constant S_ .f32 0x00000000#32)))
    (Host.divf (broadcastInDim S32x240x32x1 ![0, 1, 2] bcast_S32x240x32_S32x240x32x1_0_1_2
        (Host.reduceAdd (mulf (centred x) (centred x)) (constant S_ .f32 0x00000000#32) reducesTo_S32x240x32x256_S32x240x32_d3 h_S_))
      (broadcastInDim S32x240x32x1 ![] bcast_S_S32x240x32x1 count))
    (broadcastInDim S32x240x32x1 ![] bcast_S_S32x240x32x1 (id (constant S_ .f32 0x7FC00000#32)))

/-- The layer normalisation with its scale and its shift. -/
def norm (x : FVec F S32x240x32x256 .f32) (s b : FVec F S256 .f32) : FVec F S32x240x32x256 .f32 :=
  addf (mulf
      (Host.divf (centred x)
        (broadcastInDim S32x240x32x256 ![0, 1, 2, 3] bcast_S32x240x32x1_S32x240x32x256_0_1_2_3
          (Host.sqrt (addf (variance x) (broadcastInDim S32x240x32x1 ![] bcast_S_S32x240x32x1 (constant S_ .f32 0x3727C5AC#32))))))
      (along s))
    (along b)

/-- A state between two times of zeros. -/
def padded (g : FVec F S32x240x32x256 .f32) : FVec F S32x242x32x256 .f32 :=
  pad S32x242x32x256 ![0, 1, 0, 0] ![0, 1, 0, 0] ![0, 0, 0, 0] g (sitofp .f32 (constantI S_ 32 0#32))
    pads_S32x240x32x256_S32x242x32x256_000_110_000_000 h_S_

/-- The temporal convolution of three taps, with its residual, before its normalisation. -/
def conv (g : FVec F S32x240x32x256 .f32) (w0 w1 w2 : FVec F S256x256 .f32) (bt : FVec F S256 .f32) : FVec F S32x240x32x256 .f32 :=
  addf g (maximumf
    (addf
      (addf
        (addf
          (Host.dotGeneral dot_S32x240x32x256_S256x256_S32x240x32x256_3_0_012_1_n_n none
            (extractStridedSlice S32x240x32x256 ![0, 0, 0, 0] (padded g) slices_S32x242x32x256_S32x240x32x256_0_0_0_0) w0)
          (Host.dotGeneral dot_S32x240x32x256_S256x256_S32x240x32x256_3_0_012_1_n_n none
            (extractStridedSlice S32x240x32x256 ![0, 1, 0, 0] (padded g) slices_S32x242x32x256_S32x240x32x256_0_1_0_0) w1))
        (Host.dotGeneral dot_S32x240x32x256_S256x256_S32x240x32x256_3_0_012_1_n_n none
          (extractStridedSlice S32x240x32x256 ![0, 2, 0, 0] (padded g) slices_S32x242x32x256_S32x240x32x256_0_2_0_0) w2))
      (along bt))
    (broadcastInDim S32x240x32x256 ![] bcast_S_S32x240x32x256 (constant S_ .f32 0x00000000#32)))

/-- The output projection. -/
def project (x : FVec F S32x240x32x256 .f32) (w : FVec F S256x3 .f32) (b : FVec F S3 .f32) : FVec F S32x240x32x3 .f32 :=
  addf (Host.dotGeneral dot_S32x240x32x256_S256x3_S32x240x32x3_3_0_012_1_n_n none x w)
    (broadcastInDim S32x240x32x3 ![0, 1, 2, 3] bcast_S1x1x1x3_S32x240x32x3_0_1_2_3 (broadcastInDim S1x1x1x3 ![3] bcast_S3_S1x1x1x3_3 b))

end Terms

/-- One real state for every batch entry, as an array. -/
def enc4 (x : Fin 32 → State) : FVec Ideal S32x240x32x256 .f32 := fun j => ((x (j 0) (j 1) (j 2) (j 3) : ℝ) : EReal)

/-- A real square matrix, as an array. -/
def encW (w : Fin 256 → Fin 256 → ℝ) : FVec Ideal S256x256 .f32 := fun j => ((w (j 0) (j 1) : ℝ) : EReal)

/-- The vector of zeros. -/
def zeros : FVec Ideal S256 .f32 := fun _ => 0

/-- The vector of ones. -/
def ones : FVec Ideal S256 .f32 := fun _ => 1

/-- The variance's divisor is 256. -/
theorem count_at (i : S_.Idx) : (count (F := Ideal)) i = ((256 : ℝ) : EReal) := by
  unfold count
  pointwise
  rw [ofBits_256]
  show ((256 : ℝ) : EReal) - (((0#32 : BitVec 32).toInt : ℝ) : EReal) = _
  simp

/-- The distance from the mean, at real numbers. -/
theorem centred_at (x : Fin 32 → State) (b : Fin 32) (t : Fin 240) (j : Fin 32) (c : Fin 256) :
    centred (enc4 x) (ix4 b t j c) = ((x b t j c - mean (x b t j) : ℝ) : EReal) := by
  pointwise [centred, enc4]
  rw [ofBits_256, coe_sum, div_256]
  rfl

/-- The layer normalisation with scale one and shift zero, at real numbers. -/
theorem norm_at (x : Fin 32 → State) : norm (enc4 x) ones zeros = enc4 fun b t j => ln (x b t j) := by
  funext i
  obtain ⟨b, t, j, c, rfl⟩ : ∃ b t j c, i = ix4 b t j c := ⟨i 0, i 1, i 2, i 3, eq_ix4 i⟩
  pointwise [norm, variance, along, ones, zeros, centred_at, count_at]
  have hv : Ideal.div (∑ q, ((x b t j q - mean (x b t j) : ℝ) : EReal) * ((x b t j q - mean (x b t j) : ℝ) : EReal)) ((256 : ℝ) : EReal)
      = ((var (x b t j) : ℝ) : EReal) := by
    simp only [← EReal.coe_mul, coe_sum, div_256]; rfl
  rw [if_pos (by exact_mod_cast (by norm_num : (0 : ℝ) < 256)), hv, EReal.coe_sub, ln_of_distances]
  rfl

/-- The temporal convolution with bias zero and its residual, at real numbers. -/
theorem conv_at (x : Fin 32 → State) (w : Fin 3 → Fin 256 → Fin 256 → ℝ) :
    conv (enc4 x) (encW (w 0)) (encW (w 1)) (encW (w 2)) zeros
      = enc4 fun b t j c => x b t j c + max (taps (lin (w 0) (x b)) (lin (w 1) (x b)) (lin (w 2) (x b)) t j c) 0 := by
  funext i
  obtain ⟨b, t, j, c, rfl⟩ : ∃ b t j c, i = ix4 b t j c := ⟨i 0, i 1, i 2, i 3, eq_ix4 i⟩
  pointwise [conv, padded, along, enc4, encW, zeros]
  rw [coe_dot (x b t j) (w 1) c]
  have hz : (FloatOps.sitofp (F := Ideal) FTy.f32 0#32 : EReal) = 0 := by
    show (((0#32 : BitVec 32).toInt : ℝ) : EReal) = 0
    simp
  have h0 : (∑ q, (if h : 1 ≤ t.val ∧ t.val - 1 < 240 then ((x b ⟨t.val - 1, h.2⟩ j q : ℝ) : EReal) else 0) * ((w 0 q c : ℝ) : EReal))
      = ((if h : 0 < t.val then lin (w 0) (x b) ⟨t.val - 1, by omega⟩ j c else 0 : ℝ) : EReal) := by
    by_cases h : 0 < t.val
    · simp only [dif_pos h, dif_pos (show 1 ≤ t.val ∧ t.val - 1 < 240 by omega)]
      exact coe_dot _ _ _
    · simp only [dif_neg h, dif_neg (show ¬(1 ≤ t.val ∧ t.val - 1 < 240) by omega), zero_mul, Finset.sum_const_zero, EReal.coe_zero]
  have h2 : (∑ q, (if h : 1 ≤ 2 + t.val ∧ 2 + t.val - 1 < 240 then ((x b ⟨2 + t.val - 1, h.2⟩ j q : ℝ) : EReal) else 0)
        * ((w 2 q c : ℝ) : EReal))
      = ((if h : t.val + 1 < 240 then lin (w 2) (x b) ⟨t.val + 1, h⟩ j c else 0 : ℝ) : EReal) := by
    by_cases h : t.val + 1 < 240
    · simp only [dif_pos h, dif_pos (show 1 ≤ 2 + t.val ∧ 2 + t.val - 1 < 240 by omega)]
      have e : ∀ h', (⟨2 + t.val - 1, h'⟩ : Fin 240) = ⟨t.val + 1, h⟩ := fun h' => Fin.ext (by show 2 + t.val - 1 = t.val + 1; omega)
      simp only [e]
      exact coe_dot _ _ _
    · simp only [dif_neg h, dif_neg (show ¬(1 ≤ 2 + t.val ∧ 2 + t.val - 1 < 240) by omega), zero_mul, Finset.sum_const_zero, EReal.coe_zero]
  rw [hz, h0, h2, ← EReal.coe_add, ← EReal.coe_add, coe_relu, ← EReal.coe_add]
  refine congrArg (fun y : ℝ => (y : EReal)) ?_
  show x b t j c + max (_ + lin (w 1) (x b) t j c + _) 0 = _
  rw [add_comm (dite _ _ _) (lin (w 1) (x b) t j c)]
  rfl

end Cert.ReferenceIdeal.Steps

end
-- ==== Proof.Chain.lean ====
/- The chain of 32 joints as a list of 62 directed edges: edge `2 i` goes from joint `i` to joint `i + 1` and edge `2 i + 1`
   back. A sum over the edges that end in a joint is a sum over the joint's neighbours; and where a gather along the joints
   reads and a scatter along the joints writes. -/
module

public import proofs.«01_k».proof.Proof.RefSteps
public import Idealize.ShloMosaic.Lib.Routing.OpsPair

@[expose] public section

set_option maxRecDepth 16384

noncomputable section

namespace Cert.Decoder

/-- The joint that an edge starts from. -/
def src (e : Fin 62) : Fin 32 := ⟨e.val / 2 + e.val % 2, by omega⟩

/-- The joint that an edge ends in. -/
def dst (e : Fin 62) : Fin 32 := ⟨e.val / 2 + 1 - e.val % 2, by omega⟩

/-- A sum over the edges that end in a joint: the joint before it and the joint after it. -/
theorem edge_sum (g : Fin 32 → ℝ) (j : Fin 32) :
    (∑ e : Fin 62, if dst e = j then g (src e) else 0)
      = (if h : 0 < j.val then g ⟨j.val - 1, by omega⟩ else 0) + (if h : j.val + 1 < 32 then g ⟨j.val + 1, h⟩ else 0) := by
  have hsplit : ∀ e : Fin 62, (if dst e = j then g (src e) else 0)
      = (if e.val + 2 = 2 * j.val then g (src e) else 0) + (if e.val = 2 * j.val + 1 then g (src e) else 0) := by
    intro e
    have hd : dst e = j ↔ e.val / 2 + 1 - e.val % 2 = j.val := Fin.ext_iff
    by_cases h1 : e.val + 2 = 2 * j.val
    · rw [if_pos (hd.mpr (by omega)), if_pos h1, if_neg (by omega), add_zero]
    · by_cases h2 : e.val = 2 * j.val + 1
      · rw [if_pos (hd.mpr (by omega)), if_neg h1, if_pos h2, zero_add]
      · rw [if_neg (fun h => by have := hd.mp h; omega), if_neg h1, if_neg h2, add_zero]
  simp only [hsplit, Finset.sum_add_distrib]
  congr 1
  · by_cases h : 0 < j.val
    · rw [dif_pos h]
      have e : ∀ e : Fin 62, (e.val + 2 = 2 * j.val) ↔ e = ⟨2 * j.val - 2, by omega⟩ := fun e => by rw [Fin.ext_iff]; show _ ↔ e.val = 2 * j.val - 2; omega
      simp only [e, Finset.sum_ite_eq', Finset.mem_univ, if_true]
      exact congrArg g (Fin.ext (by show (2 * j.val - 2) / 2 + (2 * j.val - 2) % 2 = j.val - 1; omega))
    · rw [dif_neg h]
      exact Finset.sum_eq_zero fun e _ => if_neg (by omega)
  · by_cases h : j.val + 1 < 32
    · rw [dif_pos h]
      have e : ∀ e : Fin 62, (e.val = 2 * j.val + 1) ↔ e = ⟨2 * j.val + 1, by omega⟩ := fun e => by rw [Fin.ext_iff]
      simp only [e, Finset.sum_ite_eq', Finset.mem_univ, if_true]
      exact congrArg g (Fin.ext (by show (2 * j.val + 1) / 2 + (2 * j.val + 1) % 2 = j.val + 1; omega))
    · rw [dif_neg h]
      exact Finset.sum_eq_zero fun e _ => if_neg (by have := e.isLt; omega)

/-- How many edges end in a joint. -/
def degree (j : Fin 32) : ℝ := max 1 (∑ e : Fin 62, if dst e = j then 1 else 0)

/-- A joint's degree is not zero. -/
theorem degree_ne_zero (j : Fin 32) : degree j ≠ 0 := (lt_of_lt_of_le zero_lt_one (le_max_left _ _)).ne'

end Cert.Decoder

namespace Cert.ReferenceIdeal.Steps

open Idealize.ShloMosaic Cert.ReferenceIdeal Cert.ReferenceIdeal.Gen Cert.Decoder

/-- The edges' sources, as words. -/
def srcWords : IVec S62 32 := fun i => BitVec.ofNat 32 (src (i 0)).val

/-- The edges' targets, as words. -/
def dstWords : IVec S62 32 := fun i => BitVec.ofNat 32 (dst (i 0)).val

/-- A joint's number, as a 32-bit word, read back as an integer. -/
theorem word_toInt (j : Fin 32) : (BitVec.ofNat 32 j.val).toInt = (j.val : ℤ) := by
  revert j; decide

/-- A list of joints written as words passes unchanged through the wrapping of negative indices. -/
theorem wrapped_at (j : Fin 62 → Fin 32) (e : Fin 62) (k : Fin 1) :
    wrapped (fun i => BitVec.ofNat 32 (j (i 0)).val) (ix2 e k) = BitVec.ofNat 32 (j e).val := by
  pointwise [wrapped]
  generalize j e = a
  revert a
  decide

/-- The gather along the joints reads at the source. -/
theorem gather_at (h : FVec Ideal S32x240x32x256 .f32) (i : IVec S62x1 32) (j : Fin 32) (b : Fin 32) (t : Fin 240) (e : Fin 62) (c : Fin 256)
    (hi : i (ix2 e 0) = BitVec.ofNat 32 j.val) :
    Host.gather gather_S32x240x32x256_S62x1_S32x240x62x256_013_2_n_n_2_1_322401256 h i (ix4 b t e c) = h (ix4 b t j c) := by
  refine congrArg h (funext fun a => Fin.ext ?_)
  have hs : gather_S32x240x32x256_S62x1_S32x240x62x256_013_2_n_n_2_1_322401256.siIdx (ix4 b t e c) ⟨0, by decide⟩ = ix2 e 0 := by
    funext a
    fin_cases a <;> rfl
  fin_cases a
  · show 0 + 0 + b.val = b.val; omega
  · show 0 + 0 + t.val = t.val; omega
  · have hv : min (i (gather_S32x240x32x256_S62x1_S32x240x62x256_013_2_n_n_2_1_322401256.siIdx (ix4 b t e c) ⟨0, by decide⟩)).toInt.toNat 31
        + 0 + 0 = j.val := by
      rw [hs, hi, word_toInt]
      have := j.isLt
      omega
    exact hv
  · show 0 + 0 + c.val = c.val; omega

/-- An edge's word is between 0 and 31. -/
theorem word_in_range (j : Fin 32) :
    IntOp.andi (IntOp.cmpi .sge (BitVec.ofNat 32 j.val) 0#32) (IntOp.cmpi .sle (BitVec.ofNat 32 j.val) 31#32) = 1#1 := by
  revert j; decide

/-- The features of an edge's source. -/
theorem sources_at (h : FVec Ideal S32x240x32x256 .f32) (b : Fin 32) (t : Fin 240) (e : Fin 62) (c : Fin 256) :
    sources h (wrapped srcWords) (ix4 b t e c) = h (ix4 b t (src e) c) := by
  have hw : ∀ k : Fin 1, wrapped srcWords (ix2 e k) = BitVec.ofNat 32 (src e).val := fun k => wrapped_at src e k
  rw [← gather_at h (wrapped srcWords) (src e) b t e c (hw 0)]
  generalize hg : Host.gather gather_S32x240x32x256_S62x1_S32x240x62x256_013_2_n_n_2_1_322401256 h (wrapped srcWords) = g
  unfold sources
  rw [hg]
  pointwise [hw, word_in_range]
  rw [show Finset.fold IntOp.andi 1#1 (fun _ : Fin 1 => 1#1) Finset.univ = 1#1 from by decide]
  rfl

/-- Where the scatter along the joints writes: at the edge's target, in the update's other coordinates. -/
theorem gathered_lands (k : S62x32x240x256.Idx) (i : S32x32x240x256.Idx) :
    scatter_S32x32x240x256_S62x1_S62x32x240x256_123_0_0_1.resultIdx? k (broadcastInDim S62x1 ![0] bcast_S62_S62x1_0 dstWords) = some i
      ↔ dst (k 0) = i 0 ∧ k 1 = i 1 ∧ k 2 = i 2 ∧ k 3 = i 3 := by
  rw [Idealize.ShloMosaic.Routing.resultIdx?_eq_some]
  have h0 : scatter_S32x32x240x256_S62x1_S62x32x240x256_123_0_0_1.start k (broadcastInDim S62x1 ![0] bcast_S62_S62x1_0 dstWords) 0
      = ((dst (k 0)).val : ℤ) := word_toInt (dst (k 0))
  constructor
  · intro h
    have e0 := h 0
    have e1 : (0 : ℤ) + ((k 1).val : ℤ) = ((i 1).val : ℤ) := h 1
    have e2 : (0 : ℤ) + ((k 2).val : ℤ) = ((i 2).val : ℤ) := h 2
    have e3 : (0 : ℤ) + ((k 3).val : ℤ) = ((i 3).val : ℤ) := h 3
    rw [h0] at e0
    have e0' : ((dst (k 0)).val : ℤ) + ((0 : ℕ) : ℤ) = ((i 0).val : ℤ) := e0
    exact ⟨Fin.ext (by omega), Fin.ext (by omega), Fin.ext (by omega), Fin.ext (by omega)⟩
  · rintro ⟨e0, e1, e2, e3⟩ a
    fin_cases a
    · refine (congrArg (· + _) h0).trans ?_
      show ((dst (k 0)).val : ℤ) + ((0 : ℕ) : ℤ) = ((i 0).val : ℤ)
      rw [e0]; simp
    · show (0 : ℤ) + ((k 1).val : ℤ) = ((i 1).val : ℤ)
      rw [e1]; simp
    · show (0 : ℤ) + ((k 2).val : ℤ) = ((i 2).val : ℤ)
      rw [e2]; simp
    · show (0 : ℤ) + ((k 3).val : ℤ) = ((i 3).val : ℤ)
      rw [e3]; simp

/-- The messages added up by target. -/
theorem gathered_at (u : FVec Ideal S32x240x62x256 .f32) (b : Fin 32) (t : Fin 240) (j : Fin 32) (c : Fin 256) :
    gathered u dstWords (ix4 b t j c) = ∑ e : Fin 62, if dst e = j then u (ix4 b t e c) else 0 := by
  have key : Host.scatterAdd scatter_S32x32x240x256_S62x1_S62x32x240x256_123_0_0_1
      (broadcastInDim S32x32x240x256 ![] bcast_S_S32x32x240x256 (constant (F := Ideal) S_ .f32 0x00000000#32))
      (broadcastInDim S62x1 ![0] bcast_S62_S62x1_0 dstWords)
      (transpose S62x32x240x256 [2, 0, 1, 3] u transposes_S32x240x62x256_S62x32x240x256_2_0_1_3) (ix4 j b t c)
      = ∑ e : Fin 62, if dst e = j then u (ix4 b t e c) else 0 := by
    show broadcastInDim S32x32x240x256 ![] bcast_S_S32x32x240x256 (constant (F := Ideal) S_ .f32 0x00000000#32) (ix4 j b t c)
      + (∑ k ∈ Finset.univ.filter (fun k => scatter_S32x32x240x256_S62x1_S62x32x240x256_123_0_0_1.resultIdx? k
          (broadcastInDim S62x1 ![0] bcast_S62_S62x1_0 dstWords) = some (ix4 j b t c)),
        transpose S62x32x240x256 [2, 0, 1, 3] u transposes_S32x240x62x256_S62x32x240x256_2_0_1_3 k) = _
    have hz : broadcastInDim S32x32x240x256 ![] bcast_S_S32x32x240x256 (constant (F := Ideal) S_ .f32 0x00000000#32) (ix4 j b t c) = 0 := by
      pointwise
    rw [hz, zero_add, ← Finset.sum_filter]
    refine Finset.sum_bij' (fun k _ => k 0) (fun e _ => ix4 e b t c) ?_ ?_ ?_ ?_ ?_
    · intro k hk
      exact Finset.mem_filter.mpr ⟨Finset.mem_univ _, ((gathered_lands k _).mp (Finset.mem_filter.mp hk).2).1⟩
    · intro e he
      exact Finset.mem_filter.mpr ⟨Finset.mem_univ _, (gathered_lands _ _).mpr ⟨(Finset.mem_filter.mp he).2, rfl, rfl, rfl⟩⟩
    · intro k hk
      obtain ⟨-, h1, h2, h3⟩ := (gathered_lands k _).mp (Finset.mem_filter.mp hk).2
      rw [eq_ix4 k]
      congr 1 <;> [exact h1.symm; exact h2.symm; exact h3.symm]
    · intro e he; rfl
    · intro k hk
      obtain ⟨-, h1, h2, h3⟩ := (gathered_lands k _).mp (Finset.mem_filter.mp hk).2
      rw [eq_ix4 k, h1, h2, h3]
      pointwise
  unfold gathered
  rw [← key]
  generalize Host.scatterAdd (F := Ideal) scatter_S32x32x240x256_S62x1_S62x32x240x256_123_0_0_1 _ _ _ = g
  pointwise

/-- Where the scatter that counts the edges writes: at the edge's target. -/
theorem counted_lands (k : S62.Idx) (i : S32.Idx) :
    scatter_S32_S62x1_S62_n_0_0_1.resultIdx? k (wrapped dstWords) = some i ↔ dst (k 0) = i 0 := by
  rw [Idealize.ShloMosaic.Routing.resultIdx?_eq_some]
  have h0 : scatter_S32_S62x1_S62_n_0_0_1.start k (wrapped dstWords) 0 = ((dst (k 0)).val : ℤ) :=
    (congrArg BitVec.toInt (wrapped_at dst (k 0) 0)).trans (word_toInt (dst (k 0)))
  constructor
  · intro h
    have e0 := h 0
    rw [h0] at e0
    have e0' : ((dst (k 0)).val : ℤ) + ((0 : ℕ) : ℤ) = ((i 0).val : ℤ) := e0
    exact Fin.ext (by omega)
  · intro e0 a
    fin_cases a
    refine (congrArg (· + _) h0).trans ?_
    show ((dst (k 0)).val : ℤ) + ((0 : ℕ) : ℤ) = ((i 0).val : ℤ)
    rw [e0]; simp

/-- The degrees of the joints. -/
theorem degrees_at (j : Fin 32) : degrees (F := Ideal) dstWords (ix1 j) = ((degree j : ℝ) : EReal) := by
  have key : Host.scatterAdd scatter_S32_S62x1_S62_n_0_0_1
      (broadcastInDim S32 ![] bcast_S_S32 (constant (F := Ideal) S_ .f32 0x00000000#32)) (wrapped dstWords)
      (broadcastInDim S62 ![] bcast_S_S62 (constant (F := Ideal) S_ .f32 0x3F800000#32)) (ix1 j)
      = ((∑ e : Fin 62, if dst e = j then 1 else 0 : ℝ) : EReal) := by
    show broadcastInDim S32 ![] bcast_S_S32 (constant (F := Ideal) S_ .f32 0x00000000#32) (ix1 j)
      + (∑ k ∈ Finset.univ.filter (fun k => scatter_S32_S62x1_S62_n_0_0_1.resultIdx? k (wrapped dstWords) = some (ix1 j)),
        broadcastInDim S62 ![] bcast_S_S62 (constant (F := Ideal) S_ .f32 0x3F800000#32) k) = _
    have hz : broadcastInDim S32 ![] bcast_S_S32 (constant (F := Ideal) S_ .f32 0x00000000#32) (ix1 j) = 0 := by
      pointwise
    rw [hz, zero_add, ← coe_sum]
    have hc : ∀ e : Fin 62, (((if dst e = j then 1 else 0 : ℝ)) : EReal) = if dst e = j then 1 else 0 := fun e => by split <;> rfl
    simp only [hc]
    rw [← Finset.sum_filter]
    refine Finset.sum_bij' (fun k _ => k 0) (fun e _ => ix1 e) ?_ ?_ ?_ ?_ ?_
    · intro k hk
      exact Finset.mem_filter.mpr ⟨Finset.mem_univ _, (counted_lands k _).mp (Finset.mem_filter.mp hk).2⟩
    · intro e he
      exact Finset.mem_filter.mpr ⟨Finset.mem_univ _, (counted_lands _ _).mpr (Finset.mem_filter.mp he).2⟩
    · intro k hk; exact (eq_ix1 k).symm
    · intro e he; rfl
    · intro k hk
      rw [eq_ix1 k]
      pointwise
  unfold degrees
  generalize Host.scatterAdd (F := Ideal) scatter_S32_S62x1_S62_n_0_0_1 _ _ _ = g at key ⊢
  pointwise
  rw [key]
  show max (Ideal.ofBits .f32 0x3F800000#32) _ = _
  rw [show Ideal.ofBits .f32 0x3F800000#32 = ((1 : ℝ) : EReal) by
    simp [Ideal.ofBits, Ideal.ieee, -EReal.coe_mul]; norm_num]
  exact (EReal.coe_strictMono.monotone.map_max (a := (1 : ℝ)) (b := ∑ e : Fin 62, if dst e = j then 1 else 0)).symm

/-- The messages of real features through a real matrix with bias zero. -/
theorem messages_at (x : Fin 32 → State) (w : Fin 256 → Fin 256 → ℝ) (b : Fin 32) (t : Fin 240) (e : Fin 62) (q : Fin 256) :
    messages (enc4 x) (wrapped srcWords) (encW w) zeros (ix4 b t e q) = ((dot (x b t (src e)) w q : ℝ) : EReal) := by
  unfold messages
  have hs := sources_at (enc4 x) b t e
  generalize sources (enc4 x) (wrapped srcWords) = g at hs ⊢
  pointwise [hs, encW, zeros]
  exact coe_dot (x b t (src e)) w q

/-- The mean message of a joint's neighbours is their mean through the matrix. -/
theorem mean_message (x : Fin 32 → Fin 256 → ℝ) (w : Fin 256 → Fin 256 → ℝ) (j : Fin 32) (q : Fin 256) :
    (∑ e : Fin 62, if dst e = j then dot (x (src e)) w q else 0) / degree j
      = dot (fun p => neighbours x j p * (1 / degree j)) w q := by
  rw [edge_sum (fun k => dot (x k) w q) j]
  have h : ∀ p, neighbours x j p * (1 / degree j) * w p q
      = (1 / degree j) * ((if h : 0 < j.val then x ⟨j.val - 1, by omega⟩ p * w p q else 0)
        + (if h : j.val + 1 < 32 then x ⟨j.val + 1, h⟩ p * w p q else 0)) := by
    intro p
    unfold neighbours
    split <;> split <;> ring
  show _ = ∑ p, neighbours x j p * (1 / degree j) * w p q
  simp only [h, ← Finset.mul_sum, Finset.sum_add_distrib]
  rw [one_div, div_eq_inv_mul]
  congr 2
  · by_cases h : 0 < j.val
    · simp only [dif_pos h]; rfl
    · simp only [dif_neg h, Finset.sum_const_zero]
  · by_cases h : j.val + 1 < 32
    · simp only [dif_pos h]; rfl
    · simp only [dif_neg h, Finset.sum_const_zero]

/-- The message-passing step before its normalisation, at real numbers with biases zero. -/
theorem message_at (x : Fin 32 → State) (wm wo : Fin 256 → Fin 256 → ℝ) :
    message (enc4 x) srcWords dstWords (degrees dstWords) (encW wm) zeros (encW wo) zeros
      = enc4 fun b t j c => x b t j c
          + dot (fun q => max (dot (fun p => neighbours (x b t) j p * (1 / degree j)) wm q) 0) wo c := by
  have hg : ∀ b t j q, gathered (messages (enc4 x) (wrapped srcWords) (encW wm) zeros) dstWords (ix4 b t j q)
      = ((∑ e : Fin 62, if dst e = j then dot (x b t (src e)) wm q else 0 : ℝ) : EReal) := by
    intro b t j q
    rw [gathered_at, ← coe_sum]
    refine Finset.sum_congr rfl fun e _ => ?_
    rw [messages_at]
    split <;> rfl
  unfold message
  generalize gathered (messages (enc4 x) (wrapped srcWords) (encW wm) zeros) dstWords = g at hg ⊢
  have hd := degrees_at
  generalize degrees (F := Ideal) dstWords = d at hd ⊢
  funext i
  obtain ⟨b, t, j, c, rfl⟩ : ∃ b t j c, i = ix4 b t j c := ⟨i 0, i 1, i 2, i 3, eq_ix4 i⟩
  pointwise [merged, along, encW, zeros, hg, hd, enc4]
  simp only [div_coe' (degree_ne_zero j), mean_message, coe_relu]
  rw [coe_dot (fun q => max (dot (fun p => neighbours (x b t) j p * (1 / degree j)) wm q) 0) wo c]
  exact (EReal.coe_add _ _).symm

end Cert.ReferenceIdeal.Steps

end
-- ==== Proof.RefStages.lean ====
/- The reference's stages: each of its three layers is two steps of `Steps`, and at real arguments with the chain's edges, biases
   zero and scales one its result is the output projection of `Cert.Decoder`'s last state, for every batch entry. -/
module

public import proofs.«01_k».proof.Proof.Chain

@[expose] public section

set_option maxRecDepth 16384

noncomputable section

namespace Cert.Decoder

/-- The real-valued arguments of a batch entry on the chain. -/
def batch (z : Fin 32 → State) (wm wo : Fin 3 → Fin 256 → Fin 256 → ℝ) (wt : Fin 3 → Fin 3 → Fin 256 → Fin 256 → ℝ) (b : Fin 32) : Data :=
  ⟨z b, fun j => 1 / degree j, wm, wo, wt⟩

end Cert.Decoder

namespace Cert.ReferenceIdeal.Stages

open Idealize.ShloMosaic Idealize.ShloMosaic.StableHlo Cert.ReferenceIdeal Cert.ReferenceIdeal.Gen Cert.ReferenceIdeal.Value Cert.ReferenceIdeal.Steps Cert.Decoder

/-- Layer 0's matrix, cut from the matrices of the three layers. -/
theorem mat0 (a : FVec Ideal S3x256x256 .f32) (w : Fin 3 → Fin 256 → Fin 256 → ℝ) (h : ∀ i p q, a (ix3 i p q) = ((w i p q : ℝ) : EReal)) :
    shapeCast S256x256 (extractStridedSlice S1x256x256 ![0, 0, 0] a slices_S3x256x256_S1x256x256_0_0_0) shapeCasts_S1x256x256_S256x256
      = encW (w 0) := by
  funext j
  obtain ⟨p, q, rfl⟩ : ∃ p q, j = ix2 p q := ⟨j 0, j 1, eq_ix2 j⟩
  pointwise [encW, h]

/-- Layer 0's vector, cut from three that hold one number throughout. -/
theorem row0 (a : FVec Ideal S3x256 .f32) (r : EReal) (h : ∀ i q, a (ix2 i q) = r) :
    shapeCast S256 (extractStridedSlice S1x256 ![0, 0] a slices_S3x256_S1x256_0_0) shapeCasts_S1x256_S256 = (fun _ => r : FVec Ideal S256 .f32) := by
  funext j
  obtain ⟨q, rfl⟩ : ∃ q, j = ix1 q := ⟨j 0, eq_ix1 j⟩
  pointwise [h]

/-- Layer 0's matrix of tap 0. -/
theorem tap00 (a : FVec Ideal S3x3x256x256 .f32) (w : Fin 3 → Fin 3 → Fin 256 → Fin 256 → ℝ)
    (h : ∀ i k p q, a (ix4 i k p q) = ((w i k p q : ℝ) : EReal)) :
    shapeCast S256x256 (extractStridedSlice S1x1x256x256 ![0, 0, 0, 0] a slices_S3x3x256x256_S1x1x256x256_0_0_0_0)
      shapeCasts_S1x1x256x256_S256x256 = encW (w 0 0) := by
  funext j
  obtain ⟨p, q, rfl⟩ : ∃ p q, j = ix2 p q := ⟨j 0, j 1, eq_ix2 j⟩
  pointwise [encW, h]

/-- Layer 0's matrix of tap 1. -/
theorem tap01 (a : FVec Ideal S3x3x256x256 .f32) (w : Fin 3 → Fin 3 → Fin 256 → Fin 256 → ℝ)
    (h : ∀ i k p q, a (ix4 i k p q) = ((w i k p q : ℝ) : EReal)) :
    shapeCast S256x256 (extractStridedSlice S1x1x256x256 ![0, 1, 0, 0] a slices_S3x3x256x256_S1x1x256x256_0_1_0_0)
      shapeCasts_S1x1x256x256_S256x256 = encW (w 0 1) := by
  funext j
  obtain ⟨p, q, rfl⟩ : ∃ p q, j = ix2 p q := ⟨j 0, j 1, eq_ix2 j⟩
  pointwise [encW, h]

/-- Layer 0's matrix of tap 2. -/
theorem tap02 (a : FVec Ideal S3x3x256x256 .f32) (w : Fin 3 → Fin 3 → Fin 256 → Fin 256 → ℝ)
    (h : ∀ i k p q, a (ix4 i k p q) = ((w i k p q : ℝ) : EReal)) :
    shapeCast S256x256 (extractStridedSlice S1x1x256x256 ![0, 2, 0, 0] a slices_S3x3x256x256_S1x1x256x256_0_2_0_0)
      shapeCasts_S1x1x256x256_S256x256 = encW (w 0 2) := by
  funext j
  obtain ⟨p, q, rfl⟩ : ∃ p q, j = ix2 p q := ⟨j 0, j 1, eq_ix2 j⟩
  pointwise [encW, h]

/-- Layer 1's matrix, cut from the matrices of the three layers. -/
theorem mat1 (a : FVec Ideal S3x256x256 .f32) (w : Fin 3 → Fin 256 → Fin 256 → ℝ) (h : ∀ i p q, a (ix3 i p q) = ((w i p q : ℝ) : EReal)) :
    shapeCast S256x256 (extractStridedSlice S1x256x256 ![1, 0, 0] a slices_S3x256x256_S1x256x256_1_0_0) shapeCasts_S1x256x256_S256x256
      = encW (w 1) := by
  funext j
  obtain ⟨p, q, rfl⟩ : ∃ p q, j = ix2 p q := ⟨j 0, j 1, eq_ix2 j⟩
  pointwise [encW, h]

/-- Layer 1's vector, cut from three that hold one number throughout. -/
theorem row1 (a : FVec Ideal S3x256 .f32) (r : EReal) (h : ∀ i q, a (ix2 i q) = r) :
    shapeCast S256 (extractStridedSlice S1x256 ![1, 0] a slices_S3x256_S1x256_1_0) shapeCasts_S1x256_S256 = (fun _ => r : FVec Ideal S256 .f32) := by
  funext j
  obtain ⟨q, rfl⟩ : ∃ q, j = ix1 q := ⟨j 0, eq_ix1 j⟩
  pointwise [h]

/-- Layer 1's matrix of tap 0. -/
theorem tap10 (a : FVec Ideal S3x3x256x256 .f32) (w : Fin 3 → Fin 3 → Fin 256 → Fin 256 → ℝ)
    (h : ∀ i k p q, a (ix4 i k p q) = ((w i k p q : ℝ) : EReal)) :
    shapeCast S256x256 (extractStridedSlice S1x1x256x256 ![1, 0, 0, 0] a slices_S3x3x256x256_S1x1x256x256_1_0_0_0)
      shapeCasts_S1x1x256x256_S256x256 = encW (w 1 0) := by
  funext j
  obtain ⟨p, q, rfl⟩ : ∃ p q, j = ix2 p q := ⟨j 0, j 1, eq_ix2 j⟩
  pointwise [encW, h]

/-- Layer 1's matrix of tap 1. -/
theorem tap11 (a : FVec Ideal S3x3x256x256 .f32) (w : Fin 3 → Fin 3 → Fin 256 → Fin 256 → ℝ)
    (h : ∀ i k p q, a (ix4 i k p q) = ((w i k p q : ℝ) : EReal)) :
    shapeCast S256x256 (extractStridedSlice S1x1x256x256 ![1, 1, 0, 0] a slices_S3x3x256x256_S1x1x256x256_1_1_0_0)
      shapeCasts_S1x1x256x256_S256x256 = encW (w 1 1) := by
  funext j
  obtain ⟨p, q, rfl⟩ : ∃ p q, j = ix2 p q := ⟨j 0, j 1, eq_ix2 j⟩
  pointwise [encW, h]

/-- Layer 1's matrix of tap 2. -/
theorem tap12 (a : FVec Ideal S3x3x256x256 .f32) (w : Fin 3 → Fin 3 → Fin 256 → Fin 256 → ℝ)
    (h : ∀ i k p q, a (ix4 i k p q) = ((w i k p q : ℝ) : EReal)) :
    shapeCast S256x256 (extractStridedSlice S1x1x256x256 ![1, 2, 0, 0] a slices_S3x3x256x256_S1x1x256x256_1_2_0_0)
      shapeCasts_S1x1x256x256_S256x256 = encW (w 1 2) := by
  funext j
  obtain ⟨p, q, rfl⟩ : ∃ p q, j = ix2 p q := ⟨j 0, j 1, eq_ix2 j⟩
  pointwise [encW, h]

/-- Layer 2's matrix, cut from the matrices of the three layers. -/
theorem mat2 (a : FVec Ideal S3x256x256 .f32) (w : Fin 3 → Fin 256 → Fin 256 → ℝ) (h : ∀ i p q, a (ix3 i p q) = ((w i p q : ℝ) : EReal)) :
    shapeCast S256x256 (extractStridedSlice S1x256x256 ![2, 0, 0] a slices_S3x256x256_S1x256x256_2_0_0) shapeCasts_S1x256x256_S256x256
      = encW (w 2) := by
  funext j
  obtain ⟨p, q, rfl⟩ : ∃ p q, j = ix2 p q := ⟨j 0, j 1, eq_ix2 j⟩
  pointwise [encW, h]

/-- Layer 2's vector, cut from three that hold one number throughout. -/
theorem row2 (a : FVec Ideal S3x256 .f32) (r : EReal) (h : ∀ i q, a (ix2 i q) = r) :
    shapeCast S256 (extractStridedSlice S1x256 ![2, 0] a slices_S3x256_S1x256_2_0) shapeCasts_S1x256_S256 = (fun _ => r : FVec Ideal S256 .f32) := by
  funext j
  obtain ⟨q, rfl⟩ : ∃ q, j = ix1 q := ⟨j 0, eq_ix1 j⟩
  pointwise [h]

/-- Layer 2's matrix of tap 0. -/
theorem tap20 (a : FVec Ideal S3x3x256x256 .f32) (w : Fin 3 → Fin 3 → Fin 256 → Fin 256 → ℝ)
    (h : ∀ i k p q, a (ix4 i k p q) = ((w i k p q : ℝ) : EReal)) :
    shapeCast S256x256 (extractStridedSlice S1x1x256x256 ![2, 0, 0, 0] a slices_S3x3x256x256_S1x1x256x256_2_0_0_0)
      shapeCasts_S1x1x256x256_S256x256 = encW (w 2 0) := by
  funext j
  obtain ⟨p, q, rfl⟩ : ∃ p q, j = ix2 p q := ⟨j 0, j 1, eq_ix2 j⟩
  pointwise [encW, h]

/-- Layer 2's matrix of tap 1. -/
theorem tap21 (a : FVec Ideal S3x3x256x256 .f32) (w : Fin 3 → Fin 3 → Fin 256 → Fin 256 → ℝ)
    (h : ∀ i k p q, a (ix4 i k p q) = ((w i k p q : ℝ) : EReal)) :
    shapeCast S256x256 (extractStridedSlice S1x1x256x256 ![2, 1, 0, 0] a slices_S3x3x256x256_S1x1x256x256_2_1_0_0)
      shapeCasts_S1x1x256x256_S256x256 = encW (w 2 1) := by
  funext j
  obtain ⟨p, q, rfl⟩ : ∃ p q, j = ix2 p q := ⟨j 0, j 1, eq_ix2 j⟩
  pointwise [encW, h]

/-- Layer 2's matrix of tap 2. -/
theorem tap22 (a : FVec Ideal S3x3x256x256 .f32) (w : Fin 3 → Fin 3 → Fin 256 → Fin 256 → ℝ)
    (h : ∀ i k p q, a (ix4 i k p q) = ((w i k p q : ℝ) : EReal)) :
    shapeCast S256x256 (extractStridedSlice S1x1x256x256 ![2, 2, 0, 0] a slices_S3x3x256x256_S1x1x256x256_2_2_0_0)
      shapeCasts_S1x1x256x256_S256x256 = encW (w 2 2) := by
  funext j
  obtain ⟨p, q, rfl⟩ : ∃ p q, j = ix2 p q := ⟨j 0, j 1, eq_ix2 j⟩
  pointwise [encW, h]

/-- The edges' sources, cut from the list of edges. -/
theorem src_words (a : IVec S2x62 32) (h : ∀ e, a (ix2 0 e) = BitVec.ofNat 32 (src e).val) :
    shapeCast S62 (extractStridedSlice S1x62 ![0, 0] a slices_S2x62_S1x62_0_0) shapeCasts_S1x62_S62 = srcWords := by
  funext j
  obtain ⟨e, rfl⟩ : ∃ e, j = ix1 e := ⟨j 0, eq_ix1 j⟩
  pointwise [srcWords, h]

/-- The edges' targets, cut from the list of edges. -/
theorem dst_words (a : IVec S2x62 32) (h : ∀ e, a (ix2 1 e) = BitVec.ofNat 32 (dst e).val) :
    shapeCast S62 (extractStridedSlice S1x62 ![1, 0] a slices_S2x62_S1x62_1_0) shapeCasts_S1x62_S62 = dstWords := by
  funext j
  obtain ⟨e, rfl⟩ : ∃ e, j = ix1 e := ⟨j 0, eq_ix1 j⟩
  pointwise [dstWords, h]

/-- What the arguments hold: real features and weights, biases zero, scales one, and the edges of the chain. -/
structure Holds (V0 : Valuation τ sig (Elt Ideal)) (z : Fin 32 → State) (wm wo : Fin 3 → Fin 256 → Fin 256 → ℝ)
    (wt : Fin 3 → Fin 3 → Fin 256 → Fin 256 → ℝ) : Prop where
  z : (V0 (Proc.devRef .tc main_arg0) : FVec Ideal S32x240x32x256 .f32) = enc4 z
  wm : ∀ i p q, (V0 (Proc.devRef .tc main_arg1) : FVec Ideal S3x256x256 .f32) (ix3 i p q) = ((wm i p q : ℝ) : EReal)
  bm : ∀ i q, (V0 (Proc.devRef .tc main_arg2) : FVec Ideal S3x256 .f32) (ix2 i q) = (0 : EReal)
  wo : ∀ i p q, (V0 (Proc.devRef .tc main_arg3) : FVec Ideal S3x256x256 .f32) (ix3 i p q) = ((wo i p q : ℝ) : EReal)
  bo : ∀ i q, (V0 (Proc.devRef .tc main_arg4) : FVec Ideal S3x256 .f32) (ix2 i q) = (0 : EReal)
  s1 : ∀ i q, (V0 (Proc.devRef .tc main_arg5) : FVec Ideal S3x256 .f32) (ix2 i q) = (1 : EReal)
  b1 : ∀ i q, (V0 (Proc.devRef .tc main_arg6) : FVec Ideal S3x256 .f32) (ix2 i q) = (0 : EReal)
  wt : ∀ i k p q, (V0 (Proc.devRef .tc main_arg7) : FVec Ideal S3x3x256x256 .f32) (ix4 i k p q) = ((wt i k p q : ℝ) : EReal)
  bt : ∀ i q, (V0 (Proc.devRef .tc main_arg8) : FVec Ideal S3x256 .f32) (ix2 i q) = (0 : EReal)
  s2 : ∀ i q, (V0 (Proc.devRef .tc main_arg9) : FVec Ideal S3x256 .f32) (ix2 i q) = (1 : EReal)
  b2 : ∀ i q, (V0 (Proc.devRef .tc main_arg10) : FVec Ideal S3x256 .f32) (ix2 i q) = (0 : EReal)
  b : ∀ q, (V0 (Proc.devRef .tc main_arg12) : FVec Ideal S3 .f32) (ix1 q) = (0 : EReal)
  src : ∀ e, (V0 (Proc.devRef .tc main_arg13) : IVec S2x62 32) (ix2 0 e) = BitVec.ofNat 32 (src e).val
  dst : ∀ e, (V0 (Proc.devRef .tc main_arg13) : IVec S2x62 32) (ix2 1 e) = BitVec.ofNat 32 (dst e).val

section

variable {V0 : Valuation τ sig (Elt Ideal)} {z : Fin 32 → State} {wm wo : Fin 3 → Fin 256 → Fin 256 → ℝ}
  {wt : Fin 3 → Fin 3 → Fin 256 → Fin 256 → ℝ}

/-- The reference's source list is the chain's sources. -/
theorem v1_eq (H : Holds V0 z wm wo wt) : res_main_v1 V0 = srcWords := src_words _ H.src

/-- The reference's destination list is the chain's destinations. -/
theorem v3_eq (H : Holds V0 z wm wo wt) : res_main_v3 V0 = dstWords := dst_words _ H.dst

/-- The reference's degrees are those that the chain's destinations give. -/
theorem v13_eq (H : Holds V0 z wm wo wt) : res_main_v13 V0 = degrees (F := Ideal) dstWords := by
  have e : res_main_v13 V0 = degrees (F := Ideal) (res_main_v3 V0) := rfl
  rw [e, v3_eq H]

/-- Layer 0's message-passing step before its normalisation. -/
theorem v40_eq (H : Holds V0 z wm wo wt) :
    res_main_v40 V0 = enc4 fun b t j c => (batch z wm wo wt b).z t j c
      + dot (fun q => max (dot (fun p => neighbours ((batch z wm wo wt b).z t) j p * (1 / degree j)) (wm 0) q) 0) (wo 0) c := by
  have e : res_main_v40 V0 = message (V0 (Proc.devRef .tc main_arg0)) (res_main_v1 V0) (res_main_v3 V0) (res_main_v13 V0)
      (shapeCast S256x256 (extractStridedSlice S1x256x256 ![0, 0, 0] (V0 (Proc.devRef .tc main_arg1)) slices_S3x256x256_S1x256x256_0_0_0) shapeCasts_S1x256x256_S256x256)
      (shapeCast S256 (extractStridedSlice S1x256 ![0, 0] (V0 (Proc.devRef .tc main_arg2)) slices_S3x256_S1x256_0_0) shapeCasts_S1x256_S256)
      (shapeCast S256x256 (extractStridedSlice S1x256x256 ![0, 0, 0] (V0 (Proc.devRef .tc main_arg3)) slices_S3x256x256_S1x256x256_0_0_0) shapeCasts_S1x256x256_S256x256)
      (shapeCast S256 (extractStridedSlice S1x256 ![0, 0] (V0 (Proc.devRef .tc main_arg4)) slices_S3x256_S1x256_0_0) shapeCasts_S1x256_S256) := rfl
  rw [e, v1_eq H, v3_eq H, v13_eq H, mat0 _ wm H.wm, mat0 _ wo H.wo, row0 _ 0 H.bm, row0 _ 0 H.bo]
  exact (congrArg (fun x => message x _ _ _ _ _ _ _) H.z).trans (message_at (fun b => (batch z wm wo wt b).z) (wm 0) (wo 0))

/-- The state after layer 0's message-passing step. -/
theorem v62_eq (H : Holds V0 z wm wo wt) : res_main_v62 V0 = enc4 fun b => (batch z wm wo wt b).g0 := by
  have e : res_main_v62 V0 = norm (res_main_v40 V0)
      (shapeCast S256 (extractStridedSlice S1x256 ![0, 0] (V0 (Proc.devRef .tc main_arg5)) slices_S3x256_S1x256_0_0) shapeCasts_S1x256_S256)
      (shapeCast S256 (extractStridedSlice S1x256 ![0, 0] (V0 (Proc.devRef .tc main_arg6)) slices_S3x256_S1x256_0_0) shapeCasts_S1x256_S256) := rfl
  rw [e, v40_eq H, row0 _ 1 H.s1, row0 _ 0 H.b1]
  exact norm_at _

/-- Layer 0's temporal convolution before its normalisation. -/
theorem v84_eq (H : Holds V0 z wm wo wt) :
    res_main_v84 V0 = enc4 fun b t j c => (batch z wm wo wt b).g0 t j c
      + max (taps (lin (wt 0 0) (batch z wm wo wt b).g0) (lin (wt 0 1) (batch z wm wo wt b).g0) (lin (wt 0 2) (batch z wm wo wt b).g0) t j c) 0 := by
  have e : res_main_v84 V0 = conv (res_main_v62 V0)
      (shapeCast S256x256 (extractStridedSlice S1x1x256x256 ![0, 0, 0, 0] (V0 (Proc.devRef .tc main_arg7)) slices_S3x3x256x256_S1x1x256x256_0_0_0_0) shapeCasts_S1x1x256x256_S256x256)
      (shapeCast S256x256 (extractStridedSlice S1x1x256x256 ![0, 1, 0, 0] (V0 (Proc.devRef .tc main_arg7)) slices_S3x3x256x256_S1x1x256x256_0_1_0_0) shapeCasts_S1x1x256x256_S256x256)
      (shapeCast S256x256 (extractStridedSlice S1x1x256x256 ![0, 2, 0, 0] (V0 (Proc.devRef .tc main_arg7)) slices_S3x3x256x256_S1x1x256x256_0_2_0_0) shapeCasts_S1x1x256x256_S256x256)
      (shapeCast S256 (extractStridedSlice S1x256 ![0, 0] (V0 (Proc.devRef .tc main_arg8)) slices_S3x256_S1x256_0_0) shapeCasts_S1x256_S256) := rfl
  rw [e, v62_eq H, tap00 _ wt H.wt, tap01 _ wt H.wt, tap02 _ wt H.wt, row0 _ 0 H.bt]
  exact conv_at _ (wt 0)

/-- The state after layer 0. -/
theorem v106_eq (H : Holds V0 z wm wo wt) : res_main_v106 V0 = enc4 fun b => (batch z wm wo wt b).h1 := by
  have e : res_main_v106 V0 = norm (res_main_v84 V0)
      (shapeCast S256 (extractStridedSlice S1x256 ![0, 0] (V0 (Proc.devRef .tc main_arg9)) slices_S3x256_S1x256_0_0) shapeCasts_S1x256_S256)
      (shapeCast S256 (extractStridedSlice S1x256 ![0, 0] (V0 (Proc.devRef .tc main_arg10)) slices_S3x256_S1x256_0_0) shapeCasts_S1x256_S256) := rfl
  rw [e, v84_eq H, row0 _ 1 H.s2, row0 _ 0 H.b2]
  exact norm_at _

/-- Layer 1's message-passing step before its normalisation. -/
theorem v133_eq (H : Holds V0 z wm wo wt) :
    res_main_v133 V0 = enc4 fun b t j c => (batch z wm wo wt b).h1 t j c
      + dot (fun q => max (dot (fun p => neighbours ((batch z wm wo wt b).h1 t) j p * (1 / degree j)) (wm 1) q) 0) (wo 1) c := by
  have e : res_main_v133 V0 = message (res_main_v106 V0) (res_main_v1 V0) (res_main_v3 V0) (res_main_v13 V0)
      (shapeCast S256x256 (extractStridedSlice S1x256x256 ![1, 0, 0] (V0 (Proc.devRef .tc main_arg1)) slices_S3x256x256_S1x256x256_1_0_0) shapeCasts_S1x256x256_S256x256)
      (shapeCast S256 (extractStridedSlice S1x256 ![1, 0] (V0 (Proc.devRef .tc main_arg2)) slices_S3x256_S1x256_1_0) shapeCasts_S1x256_S256)
      (shapeCast S256x256 (extractStridedSlice S1x256x256 ![1, 0, 0] (V0 (Proc.devRef .tc main_arg3)) slices_S3x256x256_S1x256x256_1_0_0) shapeCasts_S1x256x256_S256x256)
      (shapeCast S256 (extractStridedSlice S1x256 ![1, 0] (V0 (Proc.devRef .tc main_arg4)) slices_S3x256_S1x256_1_0) shapeCasts_S1x256_S256) := rfl
  rw [e, v1_eq H, v3_eq H, v13_eq H, mat1 _ wm H.wm, mat1 _ wo H.wo, row1 _ 0 H.bm, row1 _ 0 H.bo]
  exact (congrArg (fun x => message x _ _ _ _ _ _ _) (v106_eq H)).trans (message_at (fun b => (batch z wm wo wt b).h1) (wm 1) (wo 1))

/-- The state after layer 1's message-passing step. -/
theorem v155_eq (H : Holds V0 z wm wo wt) : res_main_v155 V0 = enc4 fun b => (batch z wm wo wt b).g1 := by
  have e : res_main_v155 V0 = norm (res_main_v133 V0)
      (shapeCast S256 (extractStridedSlice S1x256 ![1, 0] (V0 (Proc.devRef .tc main_arg5)) slices_S3x256_S1x256_1_0) shapeCasts_S1x256_S256)
      (shapeCast S256 (extractStridedSlice S1x256 ![1, 0] (V0 (Proc.devRef .tc main_arg6)) slices_S3x256_S1x256_1_0) shapeCasts_S1x256_S256) := rfl
  rw [e, v133_eq H, row1 _ 1 H.s1, row1 _ 0 H.b1]
  exact norm_at _

/-- Layer 1's temporal convolution before its normalisation. -/
theorem v177_eq (H : Holds V0 z wm wo wt) :
    res_main_v177 V0 = enc4 fun b t j c => (batch z wm wo wt b).g1 t j c
      + max (taps (lin (wt 1 0) (batch z wm wo wt b).g1) (lin (wt 1 1) (batch z wm wo wt b).g1) (lin (wt 1 2) (batch z wm wo wt b).g1) t j c) 0 := by
  have e : res_main_v177 V0 = conv (res_main_v155 V0)
      (shapeCast S256x256 (extractStridedSlice S1x1x256x256 ![1, 0, 0, 0] (V0 (Proc.devRef .tc main_arg7)) slices_S3x3x256x256_S1x1x256x256_1_0_0_0) shapeCasts_S1x1x256x256_S256x256)
      (shapeCast S256x256 (extractStridedSlice S1x1x256x256 ![1, 1, 0, 0] (V0 (Proc.devRef .tc main_arg7)) slices_S3x3x256x256_S1x1x256x256_1_1_0_0) shapeCasts_S1x1x256x256_S256x256)
      (shapeCast S256x256 (extractStridedSlice S1x1x256x256 ![1, 2, 0, 0] (V0 (Proc.devRef .tc main_arg7)) slices_S3x3x256x256_S1x1x256x256_1_2_0_0) shapeCasts_S1x1x256x256_S256x256)
      (shapeCast S256 (extractStridedSlice S1x256 ![1, 0] (V0 (Proc.devRef .tc main_arg8)) slices_S3x256_S1x256_1_0) shapeCasts_S1x256_S256) := rfl
  rw [e, v155_eq H, tap10 _ wt H.wt, tap11 _ wt H.wt, tap12 _ wt H.wt, row1 _ 0 H.bt]
  exact conv_at _ (wt 1)

/-- The state after layer 1. -/
theorem v199_eq (H : Holds V0 z wm wo wt) : res_main_v199 V0 = enc4 fun b => (batch z wm wo wt b).h2 := by
  have e : res_main_v199 V0 = norm (res_main_v177 V0)
      (shapeCast S256 (extractStridedSlice S1x256 ![1, 0] (V0 (Proc.devRef .tc main_arg9)) slices_S3x256_S1x256_1_0) shapeCasts_S1x256_S256)
      (shapeCast S256 (extractStridedSlice S1x256 ![1, 0] (V0 (Proc.devRef .tc main_arg10)) slices_S3x256_S1x256_1_0) shapeCasts_S1x256_S256) := rfl
  rw [e, v177_eq H, row1 _ 1 H.s2, row1 _ 0 H.b2]
  exact norm_at _

/-- Layer 2's message-passing step before its normalisation. -/
theorem v226_eq (H : Holds V0 z wm wo wt) :
    res_main_v226 V0 = enc4 fun b t j c => (batch z wm wo wt b).h2 t j c
      + dot (fun q => max (dot (fun p => neighbours ((batch z wm wo wt b).h2 t) j p * (1 / degree j)) (wm 2) q) 0) (wo 2) c := by
  have e : res_main_v226 V0 = message (res_main_v199 V0) (res_main_v1 V0) (res_main_v3 V0) (res_main_v13 V0)
      (shapeCast S256x256 (extractStridedSlice S1x256x256 ![2, 0, 0] (V0 (Proc.devRef .tc main_arg1)) slices_S3x256x256_S1x256x256_2_0_0) shapeCasts_S1x256x256_S256x256)
      (shapeCast S256 (extractStridedSlice S1x256 ![2, 0] (V0 (Proc.devRef .tc main_arg2)) slices_S3x256_S1x256_2_0) shapeCasts_S1x256_S256)
      (shapeCast S256x256 (extractStridedSlice S1x256x256 ![2, 0, 0] (V0 (Proc.devRef .tc main_arg3)) slices_S3x256x256_S1x256x256_2_0_0) shapeCasts_S1x256x256_S256x256)
      (shapeCast S256 (extractStridedSlice S1x256 ![2, 0] (V0 (Proc.devRef .tc main_arg4)) slices_S3x256_S1x256_2_0) shapeCasts_S1x256_S256) := rfl
  rw [e, v1_eq H, v3_eq H, v13_eq H, mat2 _ wm H.wm, mat2 _ wo H.wo, row2 _ 0 H.bm, row2 _ 0 H.bo]
  exact (congrArg (fun x => message x _ _ _ _ _ _ _) (v199_eq H)).trans (message_at (fun b => (batch z wm wo wt b).h2) (wm 2) (wo 2))

/-- The state after layer 2's message-passing step. -/
theorem v248_eq (H : Holds V0 z wm wo wt) : res_main_v248 V0 = enc4 fun b => (batch z wm wo wt b).g2 := by
  have e : res_main_v248 V0 = norm (res_main_v226 V0)
      (shapeCast S256 (extractStridedSlice S1x256 ![2, 0] (V0 (Proc.devRef .tc main_arg5)) slices_S3x256_S1x256_2_0) shapeCasts_S1x256_S256)
      (shapeCast S256 (extractStridedSlice S1x256 ![2, 0] (V0 (Proc.devRef .tc main_arg6)) slices_S3x256_S1x256_2_0) shapeCasts_S1x256_S256) := rfl
  rw [e, v226_eq H, row2 _ 1 H.s1, row2 _ 0 H.b1]
  exact norm_at _

/-- Layer 2's temporal convolution before its normalisation. -/
theorem v270_eq (H : Holds V0 z wm wo wt) :
    res_main_v270 V0 = enc4 fun b t j c => (batch z wm wo wt b).g2 t j c
      + max (taps (lin (wt 2 0) (batch z wm wo wt b).g2) (lin (wt 2 1) (batch z wm wo wt b).g2) (lin (wt 2 2) (batch z wm wo wt b).g2) t j c) 0 := by
  have e : res_main_v270 V0 = conv (res_main_v248 V0)
      (shapeCast S256x256 (extractStridedSlice S1x1x256x256 ![2, 0, 0, 0] (V0 (Proc.devRef .tc main_arg7)) slices_S3x3x256x256_S1x1x256x256_2_0_0_0) shapeCasts_S1x1x256x256_S256x256)
      (shapeCast S256x256 (extractStridedSlice S1x1x256x256 ![2, 1, 0, 0] (V0 (Proc.devRef .tc main_arg7)) slices_S3x3x256x256_S1x1x256x256_2_1_0_0) shapeCasts_S1x1x256x256_S256x256)
      (shapeCast S256x256 (extractStridedSlice S1x1x256x256 ![2, 2, 0, 0] (V0 (Proc.devRef .tc main_arg7)) slices_S3x3x256x256_S1x1x256x256_2_2_0_0) shapeCasts_S1x1x256x256_S256x256)
      (shapeCast S256 (extractStridedSlice S1x256 ![2, 0] (V0 (Proc.devRef .tc main_arg8)) slices_S3x256_S1x256_2_0) shapeCasts_S1x256_S256) := rfl
  rw [e, v248_eq H, tap20 _ wt H.wt, tap21 _ wt H.wt, tap22 _ wt H.wt, row2 _ 0 H.bt]
  exact conv_at _ (wt 2)

/-- The state after layer 2. -/
theorem last_eq (H : Holds V0 z wm wo wt) :
    norm (res_main_v270 V0)
      (shapeCast S256 (extractStridedSlice S1x256 ![2, 0] (V0 (Proc.devRef .tc main_arg9)) slices_S3x256_S1x256_2_0) shapeCasts_S1x256_S256)
      (shapeCast S256 (extractStridedSlice S1x256 ![2, 0] (V0 (Proc.devRef .tc main_arg10)) slices_S3x256_S1x256_2_0) shapeCasts_S1x256_S256)
      = enc4 fun b => (batch z wm wo wt b).h3 := by
  rw [v270_eq H, row2 _ 1 H.s2, row2 _ 0 H.b2]
  exact norm_at _

end

/-- The reference's result. -/
def result (z : Fin 32 → State) (wm wo : Fin 3 → Fin 256 → Fin 256 → ℝ) (wt : Fin 3 → Fin 3 → Fin 256 → Fin 256 → ℝ)
    (w : FVec Ideal S256x3 .f32) : FVec Ideal S32x240x32x3 .f32 := fun y =>
  ∑ q, (((batch z wm wo wt (y 0)).h3 (y 1) (y 2) q : ℝ) : EReal) * w (ix2 q (y 3))

/-- The output projection with bias zero. -/
theorem project_at (x : Fin 32 → State) (w : FVec Ideal S256x3 .f32) (b : FVec Ideal S3 .f32) (hb : ∀ q, b (ix1 q) = (0 : EReal)) :
    project (enc4 x) w b = fun y => ∑ q, ((x (y 0) (y 1) (y 2) q : ℝ) : EReal) * w (ix2 q (y 3)) := by
  funext i
  obtain ⟨b, t, j, c, rfl⟩ : ∃ b t j c, i = ix4 b t j c := ⟨i 0, i 1, i 2, i 3, eq_ix4 i⟩
  pointwise [project, hb, enc4]

/-- The reference's result, as its operations give it, is the output projection of the last state. -/
theorem result_eq {V0 : Valuation τ sig (Elt Ideal)} {z : Fin 32 → State} {wm wo : Fin 3 → Fin 256 → Fin 256 → ℝ}
    {wt : Fin 3 → Fin 3 → Fin 256 → Fin 256 → ℝ} (H : Holds V0 z wm wo wt) :
    project (norm (res_main_v270 V0)
      (shapeCast S256 (extractStridedSlice S1x256 ![2, 0] (V0 (Proc.devRef .tc main_arg9)) slices_S3x256_S1x256_2_0) shapeCasts_S1x256_S256)
      (shapeCast S256 (extractStridedSlice S1x256 ![2, 0] (V0 (Proc.devRef .tc main_arg10)) slices_S3x256_S1x256_2_0) shapeCasts_S1x256_S256))
      (V0 (Proc.devRef .tc main_arg11)) (V0 (Proc.devRef .tc main_arg12)) = result z wm wo wt (V0 (Proc.devRef .tc main_arg11)) := by
  rw [last_eq H]
  exact project_at _ _ _ H.b

end Cert.ReferenceIdeal.Stages

end
-- ==== Proof.Drawn.lean ====
/- The precondition read: where its comparisons hold, the features and the weights are real numbers, the biases are zero, the scales
   are one and the edges are the chain's. -/
module

public import proofs.«01_k».proof.Defs
public import proofs.«01_k».proof.Proof.RefStages

@[expose] public section

set_option maxRecDepth 16384

noncomputable section

namespace Cert.Pre_drawn.Read

open Idealize.ShloMosaic Cert.Pre_drawn Cert.Decoder

/-- The side conditions of the precondition's operations. -/
instance facts : Cert.Pre_drawn.Facts where
  bcast_S_S32x240x32x256 := by decide
  bcast_S_S3x256x256 := by decide
  bcast_S_S3x3x256x256 := by decide
  bcast_S_S3x256 := by decide
  bcast_S_S3 := by decide

/-- A number whose magnitude is below infinity is real. -/
theorem real_of_finite {s : Shape} (x : FVec Ideal s .f32) (hb : S_.BroadcastsInDim s (![] : Fin 0 → Fin s.rank)) (j : s.Idx)
    (h : cmpf .olt (Host.absf x) (broadcastInDim s ![] hb (constant S_ .f32 0x7F800000#32)) j = 1#1) :
    x j = (((x j : EReal).toReal : ℝ) : EReal) := by
  pointwise at h
  have h' : max (x j : EReal) (-(x j : EReal)) < Ideal.ofBits .f32 0x7F800000#32 := by
    by_contra hn
    have hd : decide (max (x j : EReal) (-(x j : EReal)) < Ideal.ofBits .f32 0x7F800000#32) = false := decide_eq_false hn
    have h2 : BitVec.ofBool (decide (max (x j : EReal) (-(x j : EReal)) < Ideal.ofBits .f32 0x7F800000#32)) = 1#1 := h
    rw [hd] at h2
    exact absurd h2 (by decide)
  rw [show Ideal.ofBits .f32 0x7F800000#32 = (⊤ : EReal) by simp [Ideal.ofBits, Ideal.ieee], max_lt_iff] at h'
  refine (EReal.coe_toReal h'.1.ne fun hb => ?_).symm
  rw [hb] at h'
  exact absurd h'.2 (by simp)

/-- A number that compares equal to a constant is it. -/
theorem eq_of_oeq {s : Shape} (x : FVec Ideal s .f32) (w : BitVec 32) (hb : S_.BroadcastsInDim s (![] : Fin 0 → Fin s.rank)) (j : s.Idx)
    (h : cmpf .oeq x (broadcastInDim s ![] hb (constant S_ .f32 w)) j = 1#1) : x j = Ideal.ofBits .f32 w := by
  pointwise at h
  by_contra hn
  rw [decide_eq_false hn] at h
  exact absurd h (by decide)

/-- The constant list of edges is the chain's. -/
theorem lit0_src : ∀ e : Fin 62, lit0 (S2x62.rowMajor (ix2 0 e)) = BitVec.ofNat 32 (src e).val := by
  have hr : ∀ e : Fin 62, S2x62.rowMajor (ix2 0 e) = ⟨e.val, (by omega : e.val < 124)⟩ := by decide +kernel
  intro e
  rw [hr]
  revert e
  decide +kernel

/-- The second row of the constant edge list holds the destinations. -/
theorem lit0_dst : ∀ e : Fin 62, lit0 (S2x62.rowMajor (ix2 1 e)) = BitVec.ofNat 32 (dst e).val := by
  have hr : ∀ e : Fin 62, S2x62.rowMajor (ix2 1 e) = ⟨62 + e.val, (by omega : 62 + e.val < 124)⟩ := by decide +kernel
  intro e
  rw [hr]
  revert e
  decide +kernel

/-- The bit pattern of zero is the number zero. -/
theorem ofBits_zero : Ideal.ofBits .f32 0x00000000#32 = (0 : EReal) := by simp [Ideal.ofBits, Ideal.ieee]

/-- The bit pattern of one is the number one. -/
theorem ofBits_one : Ideal.ofBits .f32 0x3F800000#32 = (1 : EReal) := by
  have h : Ideal.ofBits .f32 0x3F800000#32 = ((1 : ℝ) : EReal) := by simp [Ideal.ofBits, Ideal.ieee, -EReal.coe_mul]; norm_num
  rw [h, EReal.coe_one]

/-- What the fourteen arguments hold under the precondition. -/
structure Drawn (a0 : FVec Ideal S32x240x32x256 .f32) (a1 : FVec Ideal S3x256x256 .f32) (a2 : FVec Ideal S3x256 .f32) (a3 : FVec Ideal S3x256x256 .f32) (a4 : FVec Ideal S3x256 .f32) (a5 : FVec Ideal S3x256 .f32) (a6 : FVec Ideal S3x256 .f32) (a7 : FVec Ideal S3x3x256x256 .f32) (a8 : FVec Ideal S3x256 .f32) (a9 : FVec Ideal S3x256 .f32) (a10 : FVec Ideal S3x256 .f32) (a11 : FVec Ideal S256x3 .f32) (a12 : FVec Ideal S3 .f32) (a13 : IVec S2x62 32) (z : Fin 32 → State)
    (wm wo : Fin 3 → Fin 256 → Fin 256 → ℝ) (wt : Fin 3 → Fin 3 → Fin 256 → Fin 256 → ℝ) : Prop where
  z : ∀ b t j c, a0 (ix4 b t j c) = ((z b t j c : ℝ) : EReal)
  wm : ∀ i p q, a1 (ix3 i p q) = ((wm i p q : ℝ) : EReal)
  bm : ∀ i q, a2 (ix2 i q) = (0 : EReal)
  wo : ∀ i p q, a3 (ix3 i p q) = ((wo i p q : ℝ) : EReal)
  bo : ∀ i q, a4 (ix2 i q) = (0 : EReal)
  s1 : ∀ i q, a5 (ix2 i q) = (1 : EReal)
  b1 : ∀ i q, a6 (ix2 i q) = (0 : EReal)
  wt : ∀ i k p q, a7 (ix4 i k p q) = ((wt i k p q : ℝ) : EReal)
  bt : ∀ i q, a8 (ix2 i q) = (0 : EReal)
  s2 : ∀ i q, a9 (ix2 i q) = (1 : EReal)
  b2 : ∀ i q, a10 (ix2 i q) = (0 : EReal)
  b : ∀ q, a12 (ix1 q) = (0 : EReal)
  src : ∀ e, a13 (ix2 0 e) = BitVec.ofNat 32 (src e).val
  dst : ∀ e, a13 (ix2 1 e) = BitVec.ofNat 32 (dst e).val

/-- The edges are the constant list. -/
theorem edges_eq (a : IVec S2x62 32) (h : cmpi .eq a (fun i => lit0 (S2x62.rowMajor i)) = fun _ => 1#1) (i : S2x62.Idx) :
    a i = lit0 (S2x62.rowMajor i) := by
  have hi : BitVec.ofBool (a i == lit0 (S2x62.rowMajor i)) = 1#1 := congrFun h i
  by_contra hn
  rw [show (a i == lit0 (S2x62.rowMajor i)) = false from beq_false_of_ne hn] at hi
  exact absurd hi (by decide)

/-- The precondition's conjuncts, read. -/
theorem drawn_of_fn (a0 : FVec Ideal S32x240x32x256 .f32) (a1 : FVec Ideal S3x256x256 .f32) (a2 : FVec Ideal S3x256 .f32) (a3 : FVec Ideal S3x256x256 .f32) (a4 : FVec Ideal S3x256 .f32) (a5 : FVec Ideal S3x256 .f32) (a6 : FVec Ideal S3x256 .f32) (a7 : FVec Ideal S3x3x256x256 .f32) (a8 : FVec Ideal S3x256 .f32) (a9 : FVec Ideal S3x256 .f32) (a10 : FVec Ideal S3x256 .f32) (a11 : FVec Ideal S256x3 .f32) (a12 : FVec Ideal S3 .f32) (a13 : IVec S2x62 32)
    (h : (fn a0 a1 a2 a3 a4 a5 a6 a7 a8 a9 a10 a11 a12 a13).1 = (fun _ => 1#1) ∧ (fn a0 a1 a2 a3 a4 a5 a6 a7 a8 a9 a10 a11 a12 a13).2.1 = (fun _ => 1#1) ∧ (fn a0 a1 a2 a3 a4 a5 a6 a7 a8 a9 a10 a11 a12 a13).2.2.1 = (fun _ => 1#1) ∧ (fn a0 a1 a2 a3 a4 a5 a6 a7 a8 a9 a10 a11 a12 a13).2.2.2.1 = (fun _ => 1#1)
      ∧ (fn a0 a1 a2 a3 a4 a5 a6 a7 a8 a9 a10 a11 a12 a13).2.2.2.2.1 = (fun _ => 1#1) ∧ (fn a0 a1 a2 a3 a4 a5 a6 a7 a8 a9 a10 a11 a12 a13).2.2.2.2.2.1 = (fun _ => 1#1) ∧ (fn a0 a1 a2 a3 a4 a5 a6 a7 a8 a9 a10 a11 a12 a13).2.2.2.2.2.2.1 = (fun _ => 1#1)
      ∧ (fn a0 a1 a2 a3 a4 a5 a6 a7 a8 a9 a10 a11 a12 a13).2.2.2.2.2.2.2.1 = (fun _ => 1#1) ∧ (fn a0 a1 a2 a3 a4 a5 a6 a7 a8 a9 a10 a11 a12 a13).2.2.2.2.2.2.2.2.1 = (fun _ => 1#1)
      ∧ (fn a0 a1 a2 a3 a4 a5 a6 a7 a8 a9 a10 a11 a12 a13).2.2.2.2.2.2.2.2.2.1 = (fun _ => 1#1) ∧ (fn a0 a1 a2 a3 a4 a5 a6 a7 a8 a9 a10 a11 a12 a13).2.2.2.2.2.2.2.2.2.2.1 = (fun _ => 1#1)
      ∧ (fn a0 a1 a2 a3 a4 a5 a6 a7 a8 a9 a10 a11 a12 a13).2.2.2.2.2.2.2.2.2.2.2.1 = (fun _ => 1#1) ∧ (fn a0 a1 a2 a3 a4 a5 a6 a7 a8 a9 a10 a11 a12 a13).2.2.2.2.2.2.2.2.2.2.2.2 = (fun _ => 1#1)) :
    Drawn a0 a1 a2 a3 a4 a5 a6 a7 a8 a9 a10 a11 a12 a13 (fun b t j c => (a0 (ix4 b t j c) : EReal).toReal) (fun i p q => (a1 (ix3 i p q) : EReal).toReal)
      (fun i p q => (a3 (ix3 i p q) : EReal).toReal) (fun i k p q => (a7 (ix4 i k p q) : EReal).toReal) := by
  obtain ⟨h0, h1, h2, h3, h4, h5, h6, h7, h8, h9, h10, h11, h12⟩ := h
  exact {
    z := fun b t j c => real_of_finite a0 _ _ (congrFun h1 (ix4 b t j c))
    wm := fun i p q => real_of_finite a1 _ _ (congrFun h2 (ix3 i p q))
    wo := fun i p q => real_of_finite a3 _ _ (congrFun h3 (ix3 i p q))
    wt := fun i k p q => real_of_finite a7 _ _ (congrFun h4 (ix4 i k p q))
    bm := fun i q => (eq_of_oeq a2 _ _ _ (congrFun h5 (ix2 i q))).trans ofBits_zero
    bo := fun i q => (eq_of_oeq a4 _ _ _ (congrFun h6 (ix2 i q))).trans ofBits_zero
    bt := fun i q => (eq_of_oeq a8 _ _ _ (congrFun h7 (ix2 i q))).trans ofBits_zero
    b := fun q => (eq_of_oeq a12 _ _ _ (congrFun h8 (ix1 q))).trans ofBits_zero
    s1 := fun i q => (eq_of_oeq a5 _ _ _ (congrFun h9 (ix2 i q))).trans ofBits_one
    b1 := fun i q => (eq_of_oeq a6 _ _ _ (congrFun h10 (ix2 i q))).trans ofBits_zero
    s2 := fun i q => (eq_of_oeq a9 _ _ _ (congrFun h11 (ix2 i q))).trans ofBits_one
    b2 := fun i q => (eq_of_oeq a10 _ _ _ (congrFun h12 (ix2 i q))).trans ofBits_zero
    src := fun e => (edges_eq a13 h0 (ix2 0 e)).trans (lit0_src e)
    dst := fun e => (edges_eq a13 h0 (ix2 1 e)).trans (lit0_dst e) }

end Cert.Pre_drawn.Read

end
-- ==== Proof.KernelArray.lean ====
/- The kernel's result array: each grid point takes one batch entry's features, the inverse degrees that the host computed and the
   weights, and leaves that entry's block of the result; the blocks fill the array. -/
module

public import proofs.«01_k».proof.Proof.KernelStages
public import proofs.«01_k».proof.Proof.Drawn
public import proofs.«01_k».proof.Proof.Gen.KernelIdeal.Value
public import Idealize.ShloMosaic.Lib.Pipeline.ValueKit
public import Idealize.ShloMosaic.Lib.Claim

@[expose] public section

set_option maxRecDepth 16384

noncomputable section

namespace Cert.KernelIdeal.ResultArray

open Idealize.ShloMosaic Idealize.ShloMosaic.TcCoe Idealize.SL.Sem Cert.KernelIdeal Cert.KernelIdeal.Gen Cert.KernelIdeal.Stages Cert.Decoder
open Idealize.ShloMosaic.Pipeline (Dat)

variable (m : (ℓ : Loc nD τ sig) → Buf (Elt Ideal) ℓ)

/-- The inverse degrees that the host hands to the kernel. -/
theorem inverse_degrees (c : Dev nD) : V m c main_v14 = broadcastInDim S1x32x1 ![1] bcast_S32_S1x32x1_1
    (Host.divf (broadcastInDim S32 ![] bcast_S_S32 (constant (F := Ideal) S_ .f32 0x3F800000#32))
      (Cert.ReferenceIdeal.Steps.degrees (F := Ideal)
        (shapeCast S62 (extractStridedSlice S1x62 ![1, 0] (m ((c : Thread nD τ).loc main_arg13)) slices_S2x62_S1x62_1_0) shapeCasts_S1x62_S62))) := by
  entry_read
  rfl

/-- and their values on the chain. -/
theorem inverse_degrees_at (c : Dev nD) (h : ∀ e, (m ((c : Thread nD τ).loc main_arg13) : IVec S2x62 32) (ix2 1 e) = BitVec.ofNat 32 (dst e).val)
    (i : Fin 1) (j : Fin 32) (k : Fin 1) : V m c main_v14 (ix3 i j k) = ((1 / degree j : ℝ) : EReal) := by
  rw [inverse_degrees]
  rw [show shapeCast S62 (extractStridedSlice S1x62 ![1, 0] (m ((c : Thread nD τ).loc main_arg13)) slices_S2x62_S1x62_1_0) shapeCasts_S1x62_S62
      = Cert.ReferenceIdeal.Steps.dstWords from Cert.ReferenceIdeal.Stages.dst_words _ h]
  have hd := Cert.ReferenceIdeal.Steps.degrees_at
  generalize Cert.ReferenceIdeal.Steps.degrees (F := Ideal) Cert.ReferenceIdeal.Steps.dstWords = d at hd ⊢
  pointwise [hd]
  have h1 : Ideal.div ((1 : ℝ) : EReal) ((degree j : ℝ) : EReal) = _ := div_coe' (degree_ne_zero j) 1
  rwa [EReal.coe_one] at h1

/-- Which block each grid point takes. -/
theorem idx : ∀ t : Fin cfg0.N, win0_0.index t = ![t.val, 0, 0, 0] ∧ win0_1.index t = ![0, 0, 0] ∧ win0_2.index t = ![0, 0, 0]
    ∧ win0_3.index t = ![0, 0, 0] ∧ win0_4.index t = ![0, 0, 0, 0] ∧ win0_5.index t = ![0, 0] ∧ win0_6.index t = ![t.val, 0, 0, 0] := by
  decide +kernel

/-- A batch entry's block of the result. -/
theorem block_result (z : Fin 32 → State) (wm wo : Fin 3 → Fin 256 → Fin 256 → ℝ) (wt : Fin 3 → Fin 3 → Fin 256 → Fin 256 → ℝ)
    (w : FVec Ideal S256x3 .f32) (a : Fin 1) (b : Fin 32) (t : Fin 240) (j : Fin 32) (o : Fin 3) :
    out (batch z wm wo wt b) w (ix4 a t j o) = Cert.ReferenceIdeal.Stages.result z wm wo wt w (ix4 b t j o) := rfl

open Cert.Pre_drawn.Read in
/-- The features that a grid point reads. -/
theorem block0 (c : Dev nD) {z : Fin 32 → State} {wm wo : Fin 3 → Fin 256 → Fin 256 → ℝ} {wt : Fin 3 → Fin 3 → Fin 256 → Fin 256 → ℝ}
    (D : Drawn (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (m ((c : Thread nD τ).loc main_arg7)) (m ((c : Thread nD τ).loc main_arg8))
      (m ((c : Thread nD τ).loc main_arg9)) (m ((c : Thread nD τ).loc main_arg10)) (m ((c : Thread nD τ).loc main_arg11))
      (m ((c : Thread nD τ).loc main_arg12)) (m ((c : Thread nD τ).loc main_arg13)) z wm wo wt) (t : Fin 32) :
    iblk m c 0 t = xz (batch z wm wo wt t) := by
  have i := (idx t).1
  funext j
  obtain ⟨a, b, e, f, rfl⟩ : ∃ (a : Fin 1) (b : Fin 240) (e : Fin 32) (f : Fin 256), j = ix4 a b e f := ⟨j 0, j 1, j 2, j 3, eq_ix4 j⟩
  have p : (win0_0.blk t).view.emb (ix4 a b e f) = ix4 (t : Fin 32) b e f := by blk_ext [i]
  show V m c main_arg0 ((win0_0.blk t).view.emb (ix4 a b e f)) = _
  rw [p]
  exact (congrFun (V_main_arg0 m c) _).trans (D.z _ _ _ _)

open Cert.Pre_drawn.Read in
/-- The inverse degrees that a grid point reads. -/
theorem block1 (c : Dev nD) {z : Fin 32 → State} {wm wo : Fin 3 → Fin 256 → Fin 256 → ℝ} {wt : Fin 3 → Fin 3 → Fin 256 → Fin 256 → ℝ}
    (D : Drawn (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (m ((c : Thread nD τ).loc main_arg7)) (m ((c : Thread nD τ).loc main_arg8))
      (m ((c : Thread nD τ).loc main_arg9)) (m ((c : Thread nD τ).loc main_arg10)) (m ((c : Thread nD τ).loc main_arg11))
      (m ((c : Thread nD τ).loc main_arg12)) (m ((c : Thread nD τ).loc main_arg13)) z wm wo wt) (t : Fin 32) :
    iblk m c 1 t = xd (batch z wm wo wt t) := by
  have i := (idx t).2.1
  funext j
  obtain ⟨a, b, e, rfl⟩ : ∃ (a : Fin 1) (b : Fin 32) (e : Fin 1), j = ix3 a b e := ⟨j 0, j 1, j 2, eq_ix3 j⟩
  have p : (win0_1.blk t).view.emb (ix3 a b e) = ix3 a b e := by blk_ext [i]
  show V m c main_v14 ((win0_1.blk t).view.emb (ix3 a b e)) = _
  rw [p]
  exact inverse_degrees_at m c D.dst a b e

open Cert.Pre_drawn.Read in
/-- The message matrices that a grid point reads. -/
theorem block2 (c : Dev nD) {z : Fin 32 → State} {wm wo : Fin 3 → Fin 256 → Fin 256 → ℝ} {wt : Fin 3 → Fin 3 → Fin 256 → Fin 256 → ℝ}
    (D : Drawn (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (m ((c : Thread nD τ).loc main_arg7)) (m ((c : Thread nD τ).loc main_arg8))
      (m ((c : Thread nD τ).loc main_arg9)) (m ((c : Thread nD τ).loc main_arg10)) (m ((c : Thread nD τ).loc main_arg11))
      (m ((c : Thread nD τ).loc main_arg12)) (m ((c : Thread nD τ).loc main_arg13)) z wm wo wt) (t : Fin 32) :
    iblk m c 2 t = xm (batch z wm wo wt t) := by
  have i := (idx t).2.2.1
  funext j
  obtain ⟨a, b, e, rfl⟩ : ∃ (a : Fin 3) (b : Fin 256) (e : Fin 256), j = ix3 a b e := ⟨j 0, j 1, j 2, eq_ix3 j⟩
  have p : (win0_2.blk t).view.emb (ix3 a b e) = ix3 a b e := by blk_ext [i]
  show V m c main_arg1 ((win0_2.blk t).view.emb (ix3 a b e)) = _
  rw [p]
  exact (congrFun (V_main_arg1 m c) _).trans (D.wm _ _ _)

open Cert.Pre_drawn.Read in
/-- The output matrices of the message-passing steps that a grid point reads. -/
theorem block3 (c : Dev nD) {z : Fin 32 → State} {wm wo : Fin 3 → Fin 256 → Fin 256 → ℝ} {wt : Fin 3 → Fin 3 → Fin 256 → Fin 256 → ℝ}
    (D : Drawn (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (m ((c : Thread nD τ).loc main_arg7)) (m ((c : Thread nD τ).loc main_arg8))
      (m ((c : Thread nD τ).loc main_arg9)) (m ((c : Thread nD τ).loc main_arg10)) (m ((c : Thread nD τ).loc main_arg11))
      (m ((c : Thread nD τ).loc main_arg12)) (m ((c : Thread nD τ).loc main_arg13)) z wm wo wt) (t : Fin 32) :
    iblk m c 3 t = xo (batch z wm wo wt t) := by
  have i := (idx t).2.2.2.1
  funext j
  obtain ⟨a, b, e, rfl⟩ : ∃ (a : Fin 3) (b : Fin 256) (e : Fin 256), j = ix3 a b e := ⟨j 0, j 1, j 2, eq_ix3 j⟩
  have p : (win0_3.blk t).view.emb (ix3 a b e) = ix3 a b e := by blk_ext [i]
  show V m c main_arg3 ((win0_3.blk t).view.emb (ix3 a b e)) = _
  rw [p]
  exact (congrFun (V_main_arg3 m c) _).trans (D.wo _ _ _)

open Cert.Pre_drawn.Read in
/-- The matrices of the taps that a grid point reads. -/
theorem block4 (c : Dev nD) {z : Fin 32 → State} {wm wo : Fin 3 → Fin 256 → Fin 256 → ℝ} {wt : Fin 3 → Fin 3 → Fin 256 → Fin 256 → ℝ}
    (D : Drawn (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (m ((c : Thread nD τ).loc main_arg7)) (m ((c : Thread nD τ).loc main_arg8))
      (m ((c : Thread nD τ).loc main_arg9)) (m ((c : Thread nD τ).loc main_arg10)) (m ((c : Thread nD τ).loc main_arg11))
      (m ((c : Thread nD τ).loc main_arg12)) (m ((c : Thread nD τ).loc main_arg13)) z wm wo wt) (t : Fin 32) :
    iblk m c 4 t = xt (batch z wm wo wt t) := by
  have i := (idx t).2.2.2.2.1
  funext j
  obtain ⟨a, b, e, f, rfl⟩ : ∃ (a : Fin 3) (b : Fin 3) (e : Fin 256) (f : Fin 256), j = ix4 a b e f := ⟨j 0, j 1, j 2, j 3, eq_ix4 j⟩
  have p : (win0_4.blk t).view.emb (ix4 a b e f) = ix4 a b e f := by blk_ext [i]
  show V m c main_arg7 ((win0_4.blk t).view.emb (ix4 a b e f)) = _
  rw [p]
  exact (congrFun (V_main_arg7 m c) _).trans (D.wt _ _ _ _)

open Cert.Pre_drawn.Read in
/-- The projection matrix that a grid point reads. -/
theorem block5 (c : Dev nD) {z : Fin 32 → State} {wm wo : Fin 3 → Fin 256 → Fin 256 → ℝ} {wt : Fin 3 → Fin 3 → Fin 256 → Fin 256 → ℝ}
    (D : Drawn (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (m ((c : Thread nD τ).loc main_arg7)) (m ((c : Thread nD τ).loc main_arg8))
      (m ((c : Thread nD τ).loc main_arg9)) (m ((c : Thread nD τ).loc main_arg10)) (m ((c : Thread nD τ).loc main_arg11))
      (m ((c : Thread nD τ).loc main_arg12)) (m ((c : Thread nD τ).loc main_arg13)) z wm wo wt) (t : Fin 32) :
    iblk m c 5 t = m ((c : Thread nD τ).loc main_arg11) := by
  have i := (idx t).2.2.2.2.2.1
  funext j
  obtain ⟨a, b, rfl⟩ : ∃ (a : Fin 256) (b : Fin 3), j = ix2 a b := ⟨j 0, j 1, eq_ix2 j⟩
  have p : (win0_5.blk t).view.emb (ix2 a b) = ix2 a b := by blk_ext [i]
  blk_simp [iblk]
  rw [p]
  exact congrFun (V_main_arg11 m c) _

open Cert.Pre_drawn.Read in
/-- The result array under the precondition: the output projection of the last state, for every batch entry. -/
theorem result_array (c : Dev nD) {z : Fin 32 → State} {wm wo : Fin 3 → Fin 256 → Fin 256 → ℝ} {wt : Fin 3 → Fin 3 → Fin 256 → Fin 256 → ℝ}
    (D : Drawn (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (m ((c : Thread nD τ).loc main_arg7)) (m ((c : Thread nD τ).loc main_arg8))
      (m ((c : Thread nD τ).loc main_arg9)) (m ((c : Thread nD τ).loc main_arg10)) (m ((c : Thread nD τ).loc main_arg11))
      (m ((c : Thread nD τ).loc main_arg12)) (m ((c : Thread nD τ).loc main_arg13)) z wm wo wt) :
    (dats m 0 c).arrAt 6 cfg0.N = Cert.ReferenceIdeal.Stages.result z wm wo wt (m ((c : Thread nD τ).loc main_arg11)) := by
  refine (dats m 0 c).arrAt_eq_of_covers 6 _ (by decide +kernel) fun t hf y => ?_
  have i := (idx t).2.2.2.2.2.2
  blk_simp
  rw [after0_6, block0 m c D t, block1 m c D t, block2 m c D t, block3 m c D t, block4 m c D t, block5 m c D t, out_eq]
  obtain ⟨a, b, e, f, rfl⟩ : ∃ (a : Fin 1) (b : Fin 240) (e : Fin 32) (f : Fin 3), y = ix4 a b e f := ⟨y 0, y 1, y 2, y 3, eq_ix4 y⟩
  have p : (win0_6.blk t).view.emb (ix4 a b e f) = ix4 (t : Fin 32) b e f := by blk_ext [i]
  rw [p]
  exact block_result z wm wo wt (m ((c : Thread nD τ).loc main_arg11)) a t b e f

end Cert.KernelIdeal.ResultArray

end
-- ==== Proof.lean ====
module

public import proofs.«01_k».proof.Defs
public import proofs.«01_k».proof.Proof.KernelArray
public import proofs.«01_k».proof.Proof.Gen.Kernel.Frame

@[expose] public section

set_option maxRecDepth 16384

noncomputable section

namespace Cert.Proof

open Idealize.ShloMosaic Idealize.ShloMosaic.TcCoe Idealize.SL.Sem Cert.Decoder

/-- The reference runs to the end and leaves its arguments as they were. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run m ρ)

/-- What the precondition says of the arguments, the reference's arguments satisfy when they are the same. -/
theorem holds {V0 : Valuation ReferenceIdeal.τ ReferenceIdeal.sig (Elt Ideal)}
    {x0 : FVec Ideal Pre_drawn.S32x240x32x256 .f32}
    {x1 : FVec Ideal Pre_drawn.S3x256x256 .f32}
    {x2 : FVec Ideal Pre_drawn.S3x256 .f32}
    {x3 : FVec Ideal Pre_drawn.S3x256x256 .f32}
    {x4 : FVec Ideal Pre_drawn.S3x256 .f32}
    {x5 : FVec Ideal Pre_drawn.S3x256 .f32}
    {x6 : FVec Ideal Pre_drawn.S3x256 .f32}
    {x7 : FVec Ideal Pre_drawn.S3x3x256x256 .f32}
    {x8 : FVec Ideal Pre_drawn.S3x256 .f32}
    {x9 : FVec Ideal Pre_drawn.S3x256 .f32}
    {x10 : FVec Ideal Pre_drawn.S3x256 .f32}
    {x11 : FVec Ideal Pre_drawn.S256x3 .f32}
    {x12 : FVec Ideal Pre_drawn.S3 .f32}
    {x13 : IVec Pre_drawn.S2x62 32}
    {z : Fin 32 → State} {wm wo : Fin 3 → Fin 256 → Fin 256 → ℝ} {wt : Fin 3 → Fin 3 → Fin 256 → Fin 256 → ℝ}
    (E : Pre_drawn.Read.Drawn x0 x1 x2 x3 x4 x5 x6 x7 x8 x9 x10 x11 x12 x13 z wm wo wt)
    (a0 : (V0 (Proc.devRef .tc ReferenceIdeal.main_arg0) : FVec Ideal ReferenceIdeal.S32x240x32x256 .f32) = x0)
    (a1 : (V0 (Proc.devRef .tc ReferenceIdeal.main_arg1) : FVec Ideal ReferenceIdeal.S3x256x256 .f32) = x1)
    (a2 : (V0 (Proc.devRef .tc ReferenceIdeal.main_arg2) : FVec Ideal ReferenceIdeal.S3x256 .f32) = x2)
    (a3 : (V0 (Proc.devRef .tc ReferenceIdeal.main_arg3) : FVec Ideal ReferenceIdeal.S3x256x256 .f32) = x3)
    (a4 : (V0 (Proc.devRef .tc ReferenceIdeal.main_arg4) : FVec Ideal ReferenceIdeal.S3x256 .f32) = x4)
    (a5 : (V0 (Proc.devRef .tc ReferenceIdeal.main_arg5) : FVec Ideal ReferenceIdeal.S3x256 .f32) = x5)
    (a6 : (V0 (Proc.devRef .tc ReferenceIdeal.main_arg6) : FVec Ideal ReferenceIdeal.S3x256 .f32) = x6)
    (a7 : (V0 (Proc.devRef .tc ReferenceIdeal.main_arg7) : FVec Ideal ReferenceIdeal.S3x3x256x256 .f32) = x7)
    (a8 : (V0 (Proc.devRef .tc ReferenceIdeal.main_arg8) : FVec Ideal ReferenceIdeal.S3x256 .f32) = x8)
    (a9 : (V0 (Proc.devRef .tc ReferenceIdeal.main_arg9) : FVec Ideal ReferenceIdeal.S3x256 .f32) = x9)
    (a10 : (V0 (Proc.devRef .tc ReferenceIdeal.main_arg10) : FVec Ideal ReferenceIdeal.S3x256 .f32) = x10)
    (a12 : (V0 (Proc.devRef .tc ReferenceIdeal.main_arg12) : FVec Ideal ReferenceIdeal.S3 .f32) = x12)
    (a13 : (V0 (Proc.devRef .tc ReferenceIdeal.main_arg13) : IVec ReferenceIdeal.S2x62 32) = x13) : ReferenceIdeal.Stages.Holds V0 z wm wo wt where
  z := funext fun i => by
    obtain ⟨b, t, j, k, rfl⟩ : ∃ b t j k, i = ix4 b t j k := ⟨i 0, i 1, i 2, i 3, eq_ix4 i⟩
    exact (congrFun a0 _).trans (E.z b t j k)
  wm := fun i p q => (congrFun a1 _).trans (E.wm i p q)
  bm := fun i q => (congrFun a2 _).trans (E.bm i q)
  wo := fun i p q => (congrFun a3 _).trans (E.wo i p q)
  bo := fun i q => (congrFun a4 _).trans (E.bo i q)
  s1 := fun i q => (congrFun a5 _).trans (E.s1 i q)
  b1 := fun i q => (congrFun a6 _).trans (E.b1 i q)
  wt := fun i k p q => (congrFun a7 _).trans (E.wt i k p q)
  bt := fun i q => (congrFun a8 _).trans (E.bt i q)
  s2 := fun i q => (congrFun a9 _).trans (E.s2 i q)
  b2 := fun i q => (congrFun a10 _).trans (E.b2 i q)
  b := fun q => (congrFun a12 _).trans (E.b q)
  src := fun e => (congrFun a13 _).trans (E.src e)
  dst := fun e => (congrFun a13 _).trans (E.dst e)

/-- The kernel's result and the reference's are equal. -/
theorem algebraic : Cert.algebraic_KernelIdeal_ReferenceIdeal_pre_drawn := by
  intro m g m' g' pre agree
  have D := fun c => Cert.Pre_drawn.Read.drawn_of_fn _ _ _ _ _ _ _ _ _ _ _ _ _ _ (pre c)
  refine ⟨_,
    (θ_run Cert.KernelIdeal.defs _ _).mono (fun r h c => ⟨(h c).1.trans (Cert.KernelIdeal.ResultArray.result_array m c (D c)), (h c).2⟩)
      (Cert.KernelIdeal.Value.run_blocks m g),
    (θ_run Cert.ReferenceIdeal.defs _ _).mono (fun r h c => ⟨(h c).1.trans ?_, (h c).2⟩) (Cert.ReferenceIdeal.Value.run m' g')⟩
  obtain ⟨a0, a1, a2, a3, a4, a5, a6, a7, a8, a9, a10, a11, a12, a13⟩ := agree c
  have H := holds (V0 := StableHlo.launchContents m' c) (D c) a0 a1 a2 a3 a4 a5 a6 a7 a8 a9 a10 a12 a13
  exact (Cert.ReferenceIdeal.Stages.result_eq H).trans (congrArg (Cert.ReferenceIdeal.Stages.result _ _ _ _) a11)

/-- The certificate's claim: the programs run to the end and leave their arguments as they were, and the results are equal. The
    idealization rewrote no operation, so its part is trivial. -/
theorem claim : Cert.Claim :=
  ⟨Cert.Kernel.Gen.facts, Cert.KernelIdeal.Gen.facts, Cert.ReferenceIdeal.Gen.facts, Cert.Pre_drawn.Read.facts,
    fun m ρ _ => Cert.Kernel.Gen.frame m ρ, fun m ρ _ => Cert.KernelIdeal.Gen.frame m ρ, fun m ρ _ => Cert.KernelIdeal.Gen.frame m ρ,
    frame_reference, fun m ρ _ => frame_reference m ρ trivial, trivial, algebraic⟩

end Cert.Proof

end
